-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v5_0) i = v0 c i)
          ∧ (∀ i : (⟨1, ![7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v5_1) i = v1 c i)
          ∧ (∀ i : (⟨3, ![2, 32, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v5_2) i = v2 c i)
          ∧ (∀ i : (⟨2, ![8192, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v5_3) i = v3 c i)
          ∧ (∀ i : (⟨2, ![8192, 56]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v5_4) i = v4 c i)
          ∧ (∀ i : (⟨2, ![8192, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 i = 1#1 → r.2.mem ((c.tc : Thread Cert.KernelIdeal.nD Cert.KernelIdeal.τ).loc Cert.KernelIdeal.main_v5_5) i = v5 c i)
          ∧ (∀ i : (⟨3, ![2, 32, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 i = 1#1 → r.2.mem ((c.tc : Thread Cert.KernelIdeal.nD Cert.KernelIdeal.τ).loc Cert.KernelIdeal.main_v5_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v87) i = v0 c i)
          ∧ (∀ i : (⟨1, ![7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v27) i = v1 c i)
          ∧ (∀ i : (⟨3, ![2, 32, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v26) i = v2 c i)
          ∧ (∀ i : (⟨2, ![8192, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v88_0) i = v3 c i)
          ∧ (∀ i : (⟨2, ![8192, 56]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v83) i = v4 c i)
          ∧ (∀ i : (⟨2, ![8192, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 i = 1#1 → r.2.mem ((c.tc : Thread Cert.ReferenceIdeal.nD Cert.ReferenceIdeal.τ).loc Cert.ReferenceIdeal.main_v88_1) i = v5 c i)
          ∧ (∀ i : (⟨3, ![2, 32, 7168]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 i = 1#1 → r.2.mem ((c.tc : Thread Cert.ReferenceIdeal.nD Cert.ReferenceIdeal.τ).loc Cert.ReferenceIdeal.main_v85) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S2x4096x7168 : Shape := ⟨3, ![2, 4096, 7168]⟩
abbrev S2x4096 : Shape := ⟨2, ![2, 4096]⟩
abbrev S7168 : Shape := ⟨1, ![7168]⟩
abbrev S2x4096x1 : Shape := ⟨3, ![2, 4096, 1]⟩
abbrev S1x1x7168 : Shape := ⟨3, ![1, 1, 7168]⟩
abbrev S_ : Shape := ⟨0, ![]⟩
abbrev S8192x56x128 : Shape := ⟨3, ![8192, 56, 128]⟩
abbrev S8192x56 : Shape := ⟨2, ![8192, 56]⟩
abbrev S8192x56x1 : Shape := ⟨3, ![8192, 56, 1]⟩
abbrev S2x32x128x7168 : Shape := ⟨4, ![2, 32, 128, 7168]⟩
abbrev S2x32x7168 : Shape := ⟨3, ![2, 32, 7168]⟩
abbrev S2x32x1x7168 : Shape := ⟨4, ![2, 32, 1, 7168]⟩
abbrev S8192x7168 : Shape := ⟨2, ![8192, 7168]⟩

class Facts : Prop where
  bcast_S2x4096_S2x4096x1_0_1 : S2x4096.BroadcastsInDim S2x4096x1 (![0, 1] : Fin 2 → Fin S2x4096x1.rank)
  bitsLt_bf16_f32 : FTy.bits .bf16 < FTy.bits .f32
  bcast_S2x4096x1_S2x4096x7168_0_1_2 : S2x4096x1.BroadcastsInDim S2x4096x7168 (![0, 1, 2] : Fin 3 → Fin S2x4096x7168.rank)
  bcast_S7168_S1x1x7168_2 : S7168.BroadcastsInDim S1x1x7168 (![2] : Fin 1 → Fin S1x1x7168.rank)
  bcast_S1x1x7168_S2x4096x7168_0_1_2 : S1x1x7168.BroadcastsInDim S2x4096x7168 (![0, 1, 2] : Fin 3 → Fin S2x4096x7168.rank)
  reducesTo_S2x4096x7168_S2x4096_d2 : S2x4096x7168.ReducesTo [2] S2x4096
  h_S_ : 0 < S_.numel
  bcast_S_S2x4096x1 : S_.BroadcastsInDim S2x4096x1 (![] : Fin 0 → Fin S2x4096x1.rank)
  shapeCasts_S2x4096x7168_S8192x56x128 : S2x4096x7168.ShapeCasts S8192x56x128
  reducesTo_S8192x56x128_S8192x56_d2 : S8192x56x128.ReducesTo [2] S8192x56
  bcast_S8192x56_S8192x56x1_0_1 : S8192x56.BroadcastsInDim S8192x56x1 (![0, 1] : Fin 2 → Fin S8192x56x1.rank)
  bcast_S_S8192x56x1 : S_.BroadcastsInDim S8192x56x1 (![] : Fin 0 → Fin S8192x56x1.rank)
  shapeCasts_S2x4096x7168_S2x32x128x7168 : S2x4096x7168.ShapeCasts S2x32x128x7168
  reducesTo_S2x32x128x7168_S2x32x7168_d2 : S2x32x128x7168.ReducesTo [2] S2x32x7168
  bcast_S2x32x7168_S2x32x1x7168_0_1_3 : S2x32x7168.BroadcastsInDim S2x32x1x7168 (![0, 1, 3] : Fin 3 → Fin S2x32x1x7168.rank)
  bcast_S_S2x32x1x7168 : S_.BroadcastsInDim S2x32x1x7168 (![] : Fin 0 → Fin S2x32x1x7168.rank)
  bcast_S_S8192x7168 : S_.BroadcastsInDim S8192x7168 (![] : Fin 0 → Fin S8192x7168.rank)
  bcast_S_S7168 : S_.BroadcastsInDim S7168 (![] : Fin 0 → Fin S7168.rank)
  bcast_S_S2x32x7168 : S_.BroadcastsInDim S2x32x7168 (![] : Fin 0 → Fin S2x32x7168.rank)
  bcast_S8192x56x1_S8192x56x128_0_1_2 : S8192x56x1.BroadcastsInDim S8192x56x128 (![0, 1, 2] : Fin 3 → Fin S8192x56x128.rank)
  shapeCasts_S8192x56x128_S8192x7168 : S8192x56x128.ShapeCasts S8192x7168
  shapeCasts_S8192x56x1_S8192x56 : S8192x56x1.ShapeCasts S8192x56
  bcast_S2x32x1x7168_S2x32x128x7168_0_1_2_3 : S2x32x1x7168.BroadcastsInDim S2x32x128x7168 (![0, 1, 2, 3] : Fin 4 → Fin S2x32x128x7168.rank)
  shapeCasts_S2x32x128x7168_S8192x7168 : S2x32x128x7168.ShapeCasts S8192x7168
  shapeCasts_S2x32x1x7168_S2x32x7168 : S2x32x1x7168.ShapeCasts S2x32x7168

variable [Facts]

def fn_part3 {F : FTy → Type} [FloatOps F] (main_v38 : IVec S8192x56x1 1) (main_v52 : IVec S2x32x1x7168 1) (main_v53 : IVec S8192x7168 1) (main_v54 : IVec S7168 1) (main_v55 : IVec S2x32x7168 1) (main_v56 : IVec S8192x56x128 1) : IVec S8192x7168 1 × IVec S7168 1 × IVec S2x32x7168 1 × IVec S8192x7168 1 × IVec S8192x56 1 × IVec S8192x7168 1 × IVec S2x32x7168 1 :=
  let main_v57 : IVec S8192x7168 1 := shapeCast S8192x7168 main_v56 shapeCasts_S8192x56x128_S8192x7168
  let main_v58 : IVec S8192x56 1 := shapeCast S8192x56 main_v38 shapeCasts_S8192x56x1_S8192x56
  let main_v59 : IVec S2x32x128x7168 1 := broadcastInDim S2x32x128x7168 ![0, 1, 2, 3] bcast_S2x32x1x7168_S2x32x128x7168_0_1_2_3 main_v52
  let main_v60 : IVec S8192x7168 1 := shapeCast S8192x7168 main_v59 shapeCasts_S2x32x128x7168_S8192x7168
  let main_v61 : IVec S2x32x7168 1 := shapeCast S2x32x7168 main_v52 shapeCasts_S2x32x1x7168_S2x32x7168
  (main_v53, main_v54, main_v55, main_v57, main_v58, main_v60, main_v61)

def fn_part2 {F : FTy → Type} [FloatOps F] (main_v38 : IVec S8192x56x1 1) (main_v40 : FVec F S2x32x128x7168 .f32) : IVec S8192x7168 1 × IVec S7168 1 × IVec S2x32x7168 1 × IVec S8192x7168 1 × IVec S8192x56 1 × IVec S8192x7168 1 × IVec S2x32x7168 1 :=
  let main_cst_6 : FVec F S_ .f32 := constant S_ .f32 0xFF800000#32
  let main_v41 : FVec F S2x32x7168 .f32 := (fun x v => Host.reduce FloatOps.maximumf x v reducesTo_S2x32x128x7168_S2x32x7168_d2 h_S_) main_v40 main_cst_6
  let main_v42 : FVec F S2x32x1x7168 .f32 := broadcastInDim S2x32x1x7168 ![0, 1, 3] bcast_S2x32x7168_S2x32x1x7168_0_1_3 main_v41
  let main_cst_7 : FVec F S_ .f32 := constant S_ .f32 0x3B124925#32
  let main_v43 : FVec F S2x32x1x7168 .f32 := broadcastInDim S2x32x1x7168 ![] bcast_S_S2x32x1x7168 main_cst_7
  let main_v44 : FVec F S2x32x1x7168 .f32 := mulf main_v42 main_v43
  let main_cst_8 : FVec F S_ .f32 := constant S_ .f32 0x00000000#32
  let main_v45 : FVec F S2x32x1x7168 .f32 := broadcastInDim S2x32x1x7168 ![] bcast_S_S2x32x1x7168 main_cst_8
  let main_v46 : IVec S2x32x1x7168 1 := cmpf .oeq main_v42 main_v45
  let main_cst_9 : FVec F S_ .f32 := constant S_ .f32 0x00800000#32
  let main_v47 : FVec F S2x32x1x7168 .f32 := broadcastInDim S2x32x1x7168 ![] bcast_S_S2x32x1x7168 main_cst_9
  let main_v48 : IVec S2x32x1x7168 1 := cmpf .oge main_v44 main_v47
  let main_cst_10 : FVec F S_ .f32 := constant S_ .f32 0x7E800000#32
  let main_v49 : FVec F S2x32x1x7168 .f32 := broadcastInDim S2x32x1x7168 ![] bcast_S_S2x32x1x7168 main_cst_10
  let main_v50 : IVec S2x32x1x7168 1 := cmpf .olt main_v44 main_v49
  let main_v51 : IVec S2x32x1x7168 1 := andi main_v48 main_v50
  let main_v52 : IVec S2x32x1x7168 1 := ori main_v46 main_v51
  let main_c : IVec S_ 1 := constantI S_ 1 1#1
  let main_v53 : IVec S8192x7168 1 := broadcastInDim S8192x7168 ![] bcast_S_S8192x7168 main_c
  let main_c_11 : IVec S_ 1 := constantI S_ 1 1#1
  let main_v54 : IVec S7168 1 := broadcastInDim S7168 ![] bcast_S_S7168 main_c_11
  let main_c_12 : IVec S_ 1 := constantI S_ 1 1#1
  let main_v55 : IVec S2x32x7168 1 := broadcastInDim S2x32x7168 ![] bcast_S_S2x32x7168 main_c_12
  let main_v56 : IVec S8192x56x128 1 := broadcastInDim S8192x56x128 ![0, 1, 2] bcast_S8192x56x1_S8192x56x128_0_1_2 main_v38
  fn_part3 (F := F) main_v38 main_v52 main_v53 main_v54 main_v55 main_v56

def fn_part1 {F : FTy → Type} [FloatOps F] (main_arg3 : FVec F S2x4096x7168 .bf16) (main_v5 : FVec F S2x4096x7168 .f32) (main_v8 : FVec F S2x4096x7168 .f32) (main_v21 : FVec F S2x4096x7168 .f32) : IVec S8192x7168 1 × IVec S7168 1 × IVec S2x32x7168 1 × IVec S8192x7168 1 × IVec S8192x56 1 × IVec S8192x7168 1 × IVec S2x32x7168 1 :=
  let main_v22 : FVec F S2x4096x7168 .f32 := mulf main_v5 main_v8
  let main_v23 : FVec F S2x4096x7168 .f32 := (extf .f32 · bitsLt_bf16_f32) main_arg3
  let main_v24 : FVec F S2x4096x7168 .f32 := addf main_v21 main_v23
  let main_v25 : FVec F S8192x56x128 .f32 := shapeCast S8192x56x128 main_v24 shapeCasts_S2x4096x7168_S8192x56x128
  let main_v26 : FVec F S8192x56x128 .f32 := Host.absf main_v25
  let main_cst_1 : FVec F S_ .f32 := constant S_ .f32 0xFF800000#32
  let main_v27 : FVec F S8192x56 .f32 := (fun x v => Host.reduce FloatOps.maximumf x v reducesTo_S8192x56x128_S8192x56_d2 h_S_) main_v26 main_cst_1
  let main_v28 : FVec F S8192x56x1 .f32 := broadcastInDim S8192x56x1 ![0, 1] bcast_S8192x56_S8192x56x1_0_1 main_v27
  let main_cst_2 : FVec F S_ .f32 := constant S_ .f32 0x3B124925#32
  let main_v29 : FVec F S8192x56x1 .f32 := broadcastInDim S8192x56x1 ![] bcast_S_S8192x56x1 main_cst_2
  let main_v30 : FVec F S8192x56x1 .f32 := mulf main_v28 main_v29
  let main_cst_3 : FVec F S_ .f32 := constant S_ .f32 0x00000000#32
  let main_v31 : FVec F S8192x56x1 .f32 := broadcastInDim S8192x56x1 ![] bcast_S_S8192x56x1 main_cst_3
  let main_v32 : IVec S8192x56x1 1 := cmpf .oeq main_v28 main_v31
  let main_cst_4 : FVec F S_ .f32 := constant S_ .f32 0x00800000#32
  let main_v33 : FVec F S8192x56x1 .f32 := broadcastInDim S8192x56x1 ![] bcast_S_S8192x56x1 main_cst_4
  let main_v34 : IVec S8192x56x1 1 := cmpf .oge main_v30 main_v33
  let main_cst_5 : FVec F S_ .f32 := constant S_ .f32 0x7E800000#32
  let main_v35 : FVec F S8192x56x1 .f32 := broadcastInDim S8192x56x1 ![] bcast_S_S8192x56x1 main_cst_5
  let main_v36 : IVec S8192x56x1 1 := cmpf .olt main_v30 main_v35
  let main_v37 : IVec S8192x56x1 1 := andi main_v34 main_v36
  let main_v38 : IVec S8192x56x1 1 := ori main_v32 main_v37
  let main_v39 : FVec F S2x32x128x7168 .f32 := shapeCast S2x32x128x7168 main_v24 shapeCasts_S2x4096x7168_S2x32x128x7168
  let main_v40 : FVec F S2x32x128x7168 .f32 := Host.absf main_v39
  fn_part2 (F := F) main_v38 main_v40

def fn {F : FTy → Type} [FloatOps F] (main_arg0 : FVec F S2x4096x7168 .bf16) (main_arg1 : FVec F S2x4096 .f32) (main_arg2 : FVec F S7168 .f32) (main_arg3 : FVec F S2x4096x7168 .bf16) (main_arg4 : FVec F S2x4096x7168 .bf16) (main_arg5 : FVec F S2x4096x7168 .bf16) (main_arg6 : FVec F S2x4096x7168 .bf16) : IVec S8192x7168 1 × IVec S7168 1 × IVec S2x32x7168 1 × IVec S8192x7168 1 × IVec S8192x56 1 × IVec S8192x7168 1 × IVec S2x32x7168 1 :=
  let main_v0 : FVec F S2x4096x1 .f32 := broadcastInDim S2x4096x1 ![0, 1] bcast_S2x4096_S2x4096x1_0_1 main_arg1
  let main_v1 : FVec F S2x4096x7168 .f32 := (extf .f32 · bitsLt_bf16_f32) main_arg4
  let main_v2 : FVec F S2x4096x7168 .f32 := (extf .f32 · bitsLt_bf16_f32) main_arg5
  let main_v3 : FVec F S2x4096x7168 .f32 := addf main_v1 main_v2
  let main_v4 : FVec F S2x4096x7168 .f32 := (extf .f32 · bitsLt_bf16_f32) main_arg6
  let main_v5 : FVec F S2x4096x7168 .f32 := addf main_v3 main_v4
  let main_v6 : FVec F S2x4096x7168 .f32 := (extf .f32 · bitsLt_bf16_f32) main_arg0
  let main_v7 : FVec F S2x4096x7168 .f32 := broadcastInDim S2x4096x7168 ![0, 1, 2] bcast_S2x4096x1_S2x4096x7168_0_1_2 main_v0
  let main_v8 : FVec F S2x4096x7168 .f32 := mulf main_v6 main_v7
  let main_v9 : FVec F S1x1x7168 .f32 := broadcastInDim S1x1x7168 ![2] bcast_S7168_S1x1x7168_2 main_arg2
  let main_v10 : FVec F S2x4096x7168 .f32 := broadcastInDim S2x4096x7168 ![0, 1, 2] bcast_S1x1x7168_S2x4096x7168_0_1_2 main_v9
  let main_v11 : FVec F S2x4096x7168 .f32 := mulf main_v5 main_v10
  let main_v12 : FVec F S2x4096x7168 .f32 := mulf main_v11 main_v8
  let main_cst : FVec F S_ .f32 := constant S_ .f32 0x00000000#32
  let main_v13 : FVec F S2x4096 .f32 := (fun x v => Host.reduceAdd x v reducesTo_S2x4096x7168_S2x4096_d2 h_S_) main_v12 main_cst
  let main_v14 : FVec F S2x4096x1 .f32 := broadcastInDim S2x4096x1 ![0, 1] bcast_S2x4096_S2x4096x1_0_1 main_v13
  let main_cst_0 : FVec F S_ .f32 := constant S_ .f32 0x45E00000#32
  let main_v15 : FVec F S2x4096x1 .f32 := broadcastInDim S2x4096x1 ![] bcast_S_S2x4096x1 main_cst_0
  let main_v16 : FVec F S2x4096x1 .f32 := Host.divf main_v14 main_v15
  let main_v17 : FVec F S2x4096x7168 .f32 := broadcastInDim S2x4096x7168 ![0, 1, 2] bcast_S2x4096x1_S2x4096x7168_0_1_2 main_v16
  let main_v18 : FVec F S2x4096x7168 .f32 := mulf main_v8 main_v17
  let main_v19 : FVec F S2x4096x7168 .f32 := subf main_v11 main_v18
  let main_v20 : FVec F S2x4096x7168 .f32 := broadcastInDim S2x4096x7168 ![0, 1, 2] bcast_S2x4096x1_S2x4096x7168_0_1_2 main_v0
  let main_v21 : FVec F S2x4096x7168 .f32 := mulf main_v20 main_v19
  fn_part1 (F := F) main_arg3 main_v5 main_v8 main_v21
-- ==== Kernel.lean ====
abbrev S2x4096x7168 : Shape := ⟨3, ![2, 4096, 7168]⟩
abbrev S2x4096 : Shape := ⟨2, ![2, 4096]⟩
abbrev S7168 : Shape := ⟨1, ![7168]⟩
abbrev S8192x7168 : Shape := ⟨2, ![8192, 7168]⟩
abbrev S2x32x7168 : Shape := ⟨3, ![2, 32, 7168]⟩
abbrev S8192x56 : Shape := ⟨2, ![8192, 56]⟩
abbrev S2x128 : Shape := ⟨2, ![2, 128]⟩
abbrev S128x7168 : Shape := ⟨2, ![128, 7168]⟩
abbrev S1x8x7168 : Shape := ⟨3, ![1, 8, 7168]⟩
abbrev S128x56 : Shape := ⟨2, ![128, 56]⟩
abbrev S1x7168 : Shape := ⟨2, ![1, 7168]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S1x8x128 : Shape := ⟨3, ![1, 8, 128]⟩
abbrev S128x1 : Shape := ⟨2, ![128, 1]⟩

abbrev nBuf : Space → Nat
  | .hbm => 19
  | .vmem => 32
  | .smem => 0
  | _ => 0

abbrev bufTy : (tb : Table) → Fin (tcTables nBuf tb) → BufTy
  | .hbm, ⟨0, _⟩ => ⟨S2x4096x7168, .bf16⟩
  | .hbm, ⟨1, _⟩ => ⟨S2x4096, .f32⟩
  | .hbm, ⟨2, _⟩ => ⟨S7168, .f32⟩
  | .hbm, ⟨3, _⟩ => ⟨S2x4096x7168, .bf16⟩
  | .hbm, ⟨4, _⟩ => ⟨S2x4096x7168, .bf16⟩
  | .hbm, ⟨5, _⟩ => ⟨S2x4096x7168, .bf16⟩
  | .hbm, ⟨6, _⟩ => ⟨S2x4096x7168, .bf16⟩
  | .hbm, ⟨7, _⟩ => ⟨S8192x7168, .bf16⟩
  | .hbm, ⟨8, _⟩ => ⟨S8192x7168, .bf16⟩
  | .hbm, ⟨9, _⟩ => ⟨S8192x7168, .bf16⟩
  | .hbm, ⟨10, _⟩ => ⟨S8192x7168, .bf16⟩
  | .hbm, ⟨11, _⟩ => ⟨S8192x7168, .bf16⟩
  | .hbm, ⟨12, _⟩ => ⟨S8192x7168, .bf16⟩
  | .hbm, ⟨13, _⟩ => ⟨S7168, .f32⟩
  | .hbm, ⟨14, _⟩ => ⟨S2x32x7168, .f32⟩
  | .hbm, ⟨15, _⟩ => ⟨S8192x7168, .fp8e4m3⟩
  | .hbm, ⟨16, _⟩ => ⟨S8192x56, .f32⟩
  | .hbm, ⟨17, _⟩ => ⟨S8192x7168, .fp8e4m3⟩
  | .hbm, ⟨18, _⟩ => ⟨S2x32x7168, .f32⟩
  | .local _ .vmem, ⟨0, _⟩ => ⟨S2x128, .f32⟩
  | .local _ .vmem, ⟨1, _⟩ => ⟨S2x128, .f32⟩
  | .local _ .vmem, ⟨2, _⟩ => ⟨S7168, .f32⟩
  | .local _ .vmem, ⟨3, _⟩ => ⟨S128x7168, .bf16⟩
  | .local _ .vmem, ⟨4, _⟩ => ⟨S128x7168, .bf16⟩
  | .local _ .vmem, ⟨5, _⟩ => ⟨S128x7168, .bf16⟩
  | .local _ .vmem, ⟨6, _⟩ => ⟨S128x7168, .bf16⟩
  | .local _ .vmem, ⟨7, _⟩ => ⟨S128x7168, .bf16⟩
  | .local _ .vmem, ⟨8, _⟩ => ⟨S128x7168, .bf16⟩
  | .local _ .vmem, ⟨9, _⟩ => ⟨S128x7168, .bf16⟩
  | .local _ .vmem, ⟨10, _⟩ => ⟨S128x7168, .bf16⟩
  | .local _ .vmem, ⟨11, _⟩ => ⟨S128x7168, .bf16⟩
  | .local _ .vmem, ⟨12, _⟩ => ⟨S128x7168, .bf16⟩
  | .local _ .vmem, ⟨13, _⟩ => ⟨S128x7168, .bf16⟩
  | .local _ .vmem, ⟨14, _⟩ => ⟨S128x7168, .bf16⟩
  | .local _ .vmem, ⟨15, _⟩ => ⟨S7168, .f32⟩
  | .local _ .vmem, ⟨16, _⟩ => ⟨S1x8x7168, .f32⟩
  | .local _ .vmem, ⟨17, _⟩ => ⟨S1x8x7168, .f32⟩
  | .local _ .vmem, ⟨18, _⟩ => ⟨S128x7168, .fp8e4m3⟩
  | .local _ .vmem, ⟨19, _⟩ => ⟨S128x7168, .fp8e4m3⟩
  | .local _ .vmem, ⟨20, _⟩ => ⟨S128x56, .f32⟩
  | .local _ .vmem, ⟨21, _⟩ => ⟨S128x56, .f32⟩
  | .local _ .vmem, ⟨22, _⟩ => ⟨S128x7168, .fp8e4m3⟩
  | .local _ .vmem, ⟨23, _⟩ => ⟨S128x7168, .fp8e4m3⟩
  | .local _ .vmem, ⟨24, _⟩ => ⟨S1x8x7168, .f32⟩
  | .local _ .vmem, ⟨25, _⟩ => ⟨S1x8x7168, .f32⟩
  | .local _ .vmem, ⟨26, _⟩ => ⟨S1x7168, .f32⟩
  | .local _ .vmem, ⟨27, _⟩ => ⟨S1x7168, .f32⟩
  | .local _ .vmem, ⟨28, _⟩ => ⟨S128x7168, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c0_i32_1 : BitVec 32 := 0#32
  let v8 : BitVec 1 := Scalar.cmpi .sgt arg0 c0_i32_1
  let v9 : BitVec 32 := Scalar.extui v8
  let c0_i32_2 : BitVec 32 := 0#32
  let v10 : BitVec 1 := Scalar.cmpi .slt arg0 c0_i32_2
  let v11 : BitVec 32 := Scalar.extui v10
  let v12 : BitVec 32 := Scalar.subi v9 v11
  let c32_i32 : BitVec 32 := 32#32
  let c0_i32_3 : BitVec 32 := 0#32
  let v13 : BitVec 1 := Scalar.cmpi .sgt c32_i32 c0_i32_3
  let v14 : BitVec 32 := Scalar.extui v13
  let c0_i32_4 : BitVec 32 := 0#32
  let v15 : BitVec 1 := Scalar.cmpi .slt c32_i32 c0_i32_4
  let v16 : BitVec 32 := Scalar.extui v15
  let v17 : BitVec 32 := Scalar.subi v14 v16
  let v18 : BitVec 1 := Scalar.cmpi .ne v12 v17
  let v19 : BitVec 32 := Scalar.remsi arg0 c32_i32
  let c0_i32_5 : BitVec 32 := 0#32
  let v20 : BitVec 1 := Scalar.cmpi .ne v19 c0_i32_5
  let v21 : BitVec 1 := Scalar.andi v18 v20
  let v7 : BitVec 32 := Scalar.divsi arg0 c32_i32
  let c1_i32 : BitVec 32 := 1#32
  let v22 : BitVec 32 := Scalar.subi v7 c1_i32
  let v23 : BitVec 32 := Scalar.select v21 v22 v7
  let v24 : Index := Scalar.indexCast v23
  let c0 : Index := 0#32
  ![v24.toNat, 0]
@[reducible] def k0_t1_loop : Scf.Loop 32 :=
  let c0_i32_10 : BitVec 32 := 0#32
  let c28_i32 : BitVec 32 := 28#32
  let v36 : BitVec 32 := Scalar.addi c0_i32_10 c28_i32
  let c1_i32_11 : BitVec 32 := 1#32
  ⟨c0_i32_10, v36, c1_i32_11⟩
def k0_mult1 (k0_t1 : Fin k0_t1_loop.trips) : BitVec 32 :=
  let c0_i32_27 : BitVec 32 := 0#32
  let c0_i32_10 : BitVec 32 := 0#32
  let c1_i32_11 : BitVec 32 := 1#32
  let arg21 : BitVec 32 := Scf.iv c0_i32_10 c1_i32_11 k0_t1
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let c0_i32_28 : BitVec 32 := 0#32
  let v57 : BitVec 32 := Scalar.addi v56 c0_i32_28
  let c128_i32 : BitVec 32 := 128#32
  let v58 : BitVec 32 := Scalar.muli v57 c128_i32
  v58
def k0_off2 (k0_t1 : Fin k0_t1_loop.trips) (c0_i32_28 : BitVec 32) : Fin 2 → Nat :=
  let c0_29 : Index := 0#32
  let c0_i32_27 : BitVec 32 := 0#32
  let c0_i32_10 : BitVec 32 := 0#32
  let c1_i32_11 : BitVec 32 := 1#32
  let arg21 : BitVec 32 := Scf.iv c0_i32_10 c1_i32_11 k0_t1
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let v57 : BitVec 32 := Scalar.addi v56 c0_i32_28
  let c128_i32 : BitVec 32 := 128#32
  let v58 : BitVec 32 := Scalar.muli v57 c128_i32
  let v59 : BitVec 32 := v58
  let v60 : Index := Scalar.indexCast v59
  ![0, v60.toNat]
def k0_off3 (k0_t1 : Fin k0_t1_loop.trips) (c0_i32_28 : BitVec 32) : Fin 3 → Nat :=
  let c0_37 : Index := 0#32
  let c0_38 : Index := 0#32
  let c0_i32_27 : BitVec 32 := 0#32
  let c0_i32_10 : BitVec 32 := 0#32
  let c1_i32_11 : BitVec 32 := 1#32
  let arg21 : BitVec 32 := Scf.iv c0_i32_10 c1_i32_11 k0_t1
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let v57 : BitVec 32 := Scalar.addi v56 c0_i32_28
  let c128_i32 : BitVec 32 := 128#32
  let v58 : BitVec 32 := Scalar.muli v57 c128_i32
  let v59 : BitVec 32 := v58
  let v89 : Index := Scalar.indexCast v59
  ![0, 0, v89.toNat]
def k0_off4 (k0_t1 : Fin k0_t1_loop.trips) (c0_i32_28 : BitVec 32) : Fin 2 → Nat :=
  let c0_39 : Index := 0#32
  let c0_i32_27 : BitVec 32 := 0#32
  let c0_i32_10 : BitVec 32 := 0#32
  let c1_i32_11 : BitVec 32 := 1#32
  let arg21 : BitVec 32 := Scf.iv c0_i32_10 c1_i32_11 k0_t1
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let v57 : BitVec 32 := Scalar.addi v56 c0_i32_28
  let c128_i32 : BitVec 32 := 128#32
  let v58 : BitVec 32 := Scalar.muli v57 c128_i32
  let v59 : BitVec 32 := v58
  let v94 : Index := Scalar.indexCast v59
  ![0, v94.toNat]
def k0_mult2 (k0_t1 : Fin k0_t1_loop.trips) : BitVec 32 :=
  let c0_i32_27 : BitVec 32 := 0#32
  let c0_i32_10 : BitVec 32 := 0#32
  let c1_i32_11 : BitVec 32 := 1#32
  let arg21 : BitVec 32 := Scf.iv c0_i32_10 c1_i32_11 k0_t1
  let c1_i32_26 : BitVec 32 := 1#32
  let v54 : BitVec 32 := Scalar.muli arg21 c1_i32_26
  let v55 : BitVec 32 := Scalar.addi c0_i32_27 v54
  let c2_i32_46 : BitVec 32 := 2#32
  let v110 : BitVec 32 := Scalar.muli v55 c2_i32_46
  let c1_i32_47 : BitVec 32 := 1#32
  let v111 : BitVec 32 := Scalar.addi v110 c1_i32_47
  let c128_i32_48 : BitVec 32 := 128#32
  let v112 : BitVec 32 := Scalar.muli v111 c128_i32_48
  v112
@[reducible] def k0_t2_loop : Scf.Loop 32 :=
  let c0_i32_21 : BitVec 32 := 0#32
  let c28_i32_22 : BitVec 32 := 28#32
  let v50 : BitVec 32 := Scalar.addi c0_i32_21 c28_i32_22
  let c1_i32_23 : BitVec 32 := 1#32
  ⟨c0_i32_21, v50, c1_i32_23⟩
def k0_mult3 (k0_t2 : Fin k0_t2_loop.trips) : BitVec 32 :=
  let c0_i32_27 : BitVec 32 := 0#32
  let c0_i32_21 : BitVec 32 := 0#32
  let c1_i32_23 : BitVec 32 := 1#32
  let arg21 : BitVec 32 := Scf.iv c0_i32_21 c1_i32_23 k0_t2
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let c0_i32_28 : BitVec 32 := 0#32
  let v57 : BitVec 32 := Scalar.addi v56 c0_i32_28
  let c128_i32 : BitVec 32 := 128#32
  let v58 : BitVec 32 := Scalar.muli v57 c128_i32
  v58
def k0_off5 (k0_t2 : Fin k0_t2_loop.trips) (c0_i32_28 : BitVec 32) : Fin 2 → Nat :=
  let c0_31 : Index := 0#32
  let c0_i32_27 : BitVec 32 := 0#32
  let c0_i32_21 : BitVec 32 := 0#32
  let c1_i32_23 : BitVec 32 := 1#32
  let arg21 : BitVec 32 := Scf.iv c0_i32_21 c1_i32_23 k0_t2
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let v57 : BitVec 32 := Scalar.addi v56 c0_i32_28
  let c128_i32 : BitVec 32 := 128#32
  let v58 : BitVec 32 := Scalar.muli v57 c128_i32
  let v59 : BitVec 32 := v58
  let v61 : Index := Scalar.indexCast v59
  ![0, v61.toNat]
def k0_off6 (k0_t2 : Fin k0_t2_loop.trips) (c0_i32_28 : BitVec 32) : Fin 2 → Nat :=
  let c0_32 : Index := 0#32
  let c0_i32_27 : BitVec 32 := 0#32
  let c0_i32_21 : BitVec 32 := 0#32
  let c1_i32_23 : BitVec 32 := 1#32
  let arg21 : BitVec 32 := Scf.iv c0_i32_21 c1_i32_23 k0_t2
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let v57 : BitVec 32 := Scalar.addi v56 c0_i32_28
  let c128_i32 : BitVec 32 := 128#32
  let v58 : BitVec 32 := Scalar.muli v57 c128_i32
  let v59 : BitVec 32 := v58
  let v63 : Index := Scalar.indexCast v59
  ![0, v63.toNat]
def k0_off7 (k0_t2 : Fin k0_t2_loop.trips) (c0_i32_28 : BitVec 32) : Fin 3 → Nat :=
  let c0_67 : Index := 0#32
  let c0_68 : Index := 0#32
  let c0_i32_27 : BitVec 32 := 0#32
  let c0_i32_21 : BitVec 32 := 0#32
  let c1_i32_23 : BitVec 32 := 1#32
  let arg21 : BitVec 32 := Scf.iv c0_i32_21 c1_i32_23 k0_t2
  let c1_i32_26 : BitVec 32 := 1#32
  let v54 : BitVec 32 := Scalar.muli arg21 c1_i32_26
  let v55 : BitVec 32 := Scalar.addi c0_i32_27 v54
  let c2_i32 : BitVec 32 := 2#32
  let v56 : BitVec 32 := Scalar.muli v55 c2_i32
  let v57 : BitVec 32 := Scalar.addi v56 c0_i32_28
  let c128_i32 : BitVec 32 := 128#32
  let v58 : BitVec 32 := Scalar.muli v57 c128_i32
  let v59 : BitVec 32 := v58
  let v218 : Index := Scalar.indexCast v59
  ![0, 0, v218.toNat]
def k0_mult4 (k0_t2 : Fin k0_t2_loop.trips) : BitVec 32 :=
  let c0_i32_27 : BitVec 32 := 0#32
  let c0_i32_21 : BitVec 32 := 0#32
  let c1_i32_23 : BitVec 32 := 1#32
  let arg21 : BitVec 32 := Scf.iv c0_i32_21 c1_i32_23 k0_t2
  let c1_i32_26 : BitVec 32 := 1#32
  let v54 : BitVec 32 := Scalar.muli arg21 c1_i32_26
  let v55 : BitVec 32 := Scalar.addi c0_i32_27 v54
  let c2_i32_71 : BitVec 32 := 2#32
  let v231 : BitVec 32 := Scalar.muli v55 c2_i32_71
  let c1_i32_72 : BitVec 32 := 1#32
  let v232 : BitVec 32 := Scalar.addi v231 c1_i32_72
  let c128_i32_73 : BitVec 32 := 128#32
  let v233 : BitVec 32 := Scalar.muli v232 c128_i32_73
  v233
def k0_cond2 (i : grid0.Coords) : BitVec 1 :=
  let arg0 : BitVec 32 := BitVec.ofNat 32 (i 0).val
  let c63_i32 : BitVec 32 := 63#32
  let v51 : BitVec 1 := Scalar.cmpi .eq arg0 c63_i32
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.divsi v26 c8_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c8_i32 c0_i32_12
  let v34 : BitVec 32 := Scalar.extui v33
  let c0_i32_13 : BitVec 32 := 0#32
  let v35 : BitVec 1 := Scalar.cmpi .slt c8_i32 c0_i32_13
  let v36 : BitVec 32 := Scalar.extui v35
  let v37 : BitVec 32 := Scalar.subi v34 v36
  let v38 : BitVec 1 := Scalar.cmpi .ne v32 v37
  let v39 : BitVec 32 := Scalar.remsi v26 c8_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.divsi v26 c8_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c8_i32 c0_i32_12
  let v34 : BitVec 32 := Scalar.extui v33
  let c0_i32_13 : BitVec 32 := 0#32
  let v35 : BitVec 1 := Scalar.cmpi .slt c8_i32 c0_i32_13
  let v36 : BitVec 32 := Scalar.extui v35
  let v37 : BitVec 32 := Scalar.subi v34 v36
  let v38 : BitVec 1 := Scalar.cmpi .ne v32 v37
  let v39 : BitVec 32 := Scalar.remsi v26 c8_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  let c0_i32_17 : BitVec 32 := 0#32
  ![v16.toNat, v43.toNat, c0_i32_16.toNat]

abbrev stage0_0 : Fin 2 → Memref sig .tc .vmem S2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x7168 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x7168 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x56 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x7168 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x7168 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x4096x7168 : Shape := ⟨3, ![2, 4096, 7168]⟩
abbrev S2x4096 : Shape := ⟨2, ![2, 4096]⟩
abbrev S7168 : Shape := ⟨1, ![7168]⟩
abbrev S2x4096x1 : Shape := ⟨3, ![2, 4096, 1]⟩
abbrev S1x1x7168 : Shape := ⟨3, ![1, 1, 7168]⟩
abbrev S_ : Shape := ⟨0, ![]⟩
abbrev S2x32x128x7168 : Shape := ⟨4, ![2, 32, 128, 7168]⟩
abbrev S2x32x7168 : Shape := ⟨3, ![2, 32, 7168]⟩
abbrev S8192x56x128 : Shape := ⟨3, ![8192, 56, 128]⟩
abbrev S8192x56 : Shape := ⟨2, ![8192, 56]⟩
abbrev S8192x56x1 : Shape := ⟨3, ![8192, 56, 1]⟩
abbrev S2x32x1x7168 : Shape := ⟨4, ![2, 32, 1, 7168]⟩
abbrev S8192x7168 : Shape := ⟨2, ![8192, 7168]⟩

abbrev nBuf : Space → Nat
  | .hbm => 117
  | .vmem => 4
  | .smem => 0
  | _ => 0

abbrev bufTy : (tb : Table) → Fin (tcTables nBuf tb) → BufTy
  | .hbm, ⟨0, _⟩ => ⟨S2x4096x7168, .bf16⟩
  | .hbm, ⟨1, _⟩ => ⟨S2x4096, .f32⟩
  | .hbm, ⟨2, _⟩ => ⟨S7168, .f32⟩
  | .hbm, ⟨3, _⟩ => ⟨S2x4096x7168, .bf16⟩
  | .hbm, ⟨4, _⟩ => ⟨S2x4096x7168, .bf16⟩
  | .hbm, ⟨5, _⟩ => ⟨S2x4096x7168, .bf16⟩
  | .hbm, ⟨6, _⟩ => ⟨S2x4096x7168, .bf16⟩
  | .hbm, ⟨7, _⟩ => ⟨S2x4096x1, .f32⟩
  | .hbm, ⟨8, _⟩ => ⟨S2x4096x7168, .f32⟩
  | .hbm, ⟨9, _⟩ => ⟨S2x4096x7168, .f32⟩
  | .hbm, ⟨10, _⟩ => ⟨S2x4096x7168, .f32⟩
  | .hbm, ⟨11, _⟩ => ⟨S2x4096x7168, .f32⟩
  | .hbm, ⟨12, _⟩ => ⟨S2x4096x7168, .f32⟩
  | .hbm, ⟨13, _⟩ => ⟨S2x4096x7168, .f32⟩
  | .hbm, ⟨14, _⟩ => ⟨S2x4096x7168, .f32⟩
  | .hbm, ⟨15, _⟩ => ⟨S2x4096x7168, .f32⟩
  | .hbm, ⟨16, _⟩ => ⟨S1x1x7168, .f32⟩
  | .hbm, ⟨17, _⟩ => ⟨S2x4096x7168, .f32⟩
  | .hbm, ⟨18, _⟩ => ⟨S2x4096x7168, .f32⟩
  | .hbm, ⟨19, _⟩ => ⟨S2x4096x7168, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x7168, .f32⟩
  | .hbm, ⟨27, _⟩ => ⟨S2x4096x7168, .f32⟩
  | .hbm, ⟨28, _⟩ => ⟨S2x4096x7168, .f32⟩
  | .hbm, ⟨29, _⟩ => ⟨S2x4096x7168, .f32⟩
  | .hbm, ⟨30, _⟩ => ⟨S2x4096x7168, .f32⟩
  | .hbm, ⟨31, _⟩ => ⟨S2x4096x7168, .f32⟩
  | .hbm, ⟨32, _⟩ => ⟨S2x4096x7168, .f32⟩
  | .hbm, ⟨33, _⟩ => ⟨S2x4096x7168, .f32⟩
  | .hbm, ⟨34, _⟩ => ⟨S2x32x128x7168, .f32⟩
  | .hbm, ⟨35, _⟩ => ⟨S_, .f32⟩
  | .hbm, ⟨36, _⟩ => ⟨S2x32x7168, .f32⟩
  | .hbm, ⟨37, _⟩ => ⟨S_, .f32⟩
  | .hbm, ⟨38, _⟩ => ⟨S7168, .f32⟩
  | .hbm, ⟨39, _⟩ => ⟨S8192x56x128, .f32⟩
  | .hbm, ⟨40, _⟩ => ⟨S8192x56x128, .f32⟩
  | .hbm, ⟨41, _⟩ => ⟨S_, .f32⟩
  | .hbm, ⟨42, _⟩ => ⟨S8192x56, .f32⟩
  | .hbm, ⟨43, _⟩ => ⟨S8192x56x1, .f32⟩
  | .hbm, ⟨44, _⟩ => ⟨S_, .f32⟩
  | .hbm, ⟨45, _⟩ => ⟨S8192x56x1, .f32⟩
  | .hbm, ⟨46, _⟩ => ⟨S8192x56x1, .f32⟩
  | .hbm, ⟨47, _⟩ => ⟨S_, .f32⟩
  | .hbm, ⟨48, _⟩ => ⟨S8192x56x1, .f32⟩
  | .hbm, ⟨49, _⟩ => ⟨S_, .f32⟩
  | .hbm, ⟨50, _⟩ => ⟨S8192x56x1, .f32⟩
  | .hbm, ⟨51, _⟩ => ⟨S8192x56x1, .f32⟩
  | .hbm, ⟨52, _⟩ => ⟨S8192x56x1, .f32⟩
  | .hbm, ⟨53, _⟩ => ⟨S8192x56x1, .f32⟩
  | .hbm, ⟨54, _⟩ => ⟨S8192x56x1, .f32⟩
  | .hbm, ⟨55, _⟩ => ⟨S_, .f32⟩
  | .hbm, ⟨56, _⟩ => ⟨S8192x56x1, .f32⟩
  | .hbm, ⟨57, _⟩ => ⟨S8192x56x1, .f32⟩
  | .hbm, ⟨58, _⟩ => ⟨S_, .f32⟩
  | .hbm, ⟨59, _⟩ => ⟨S8192x56x1, .f32⟩
  | .hbm, ⟨60, _⟩ => ⟨S8192x56x1, .i1⟩
  | .hbm, ⟨61, _⟩ => ⟨S8192x56x1, .f32⟩
  | .hbm, ⟨62, _⟩ => ⟨S8192x56x1, .f32⟩
  | .hbm, ⟨63, _⟩ => ⟨S8192x56x1, .f32⟩
  | .hbm, ⟨64, _⟩ => ⟨S8192x56x1, .f32⟩
  | .hbm, ⟨65, _⟩ => ⟨S8192x56x1, .f32⟩
  | .hbm, ⟨66, _⟩ => ⟨S8192x56x128, .f32⟩
  | .hbm, ⟨67, _⟩ => ⟨S8192x56x128, .f32⟩
  | .hbm, ⟨68, _⟩ => ⟨S_, .f32⟩
  | .hbm, ⟨69, _⟩ => ⟨S8192x56x128, .f32⟩
  | .hbm, ⟨70, _⟩ => ⟨S8192x56x128, .f32⟩
  | .hbm, ⟨71, _⟩ => ⟨S_, .f32⟩
  | .hbm, ⟨72, _⟩ => ⟨S8192x56x128, .f32⟩
  | .hbm, ⟨73, _⟩ => ⟨S8192x56x128, .f32⟩
  | .hbm, ⟨74, _⟩ => ⟨S2x32x128x7168, .f32⟩
  | .hbm, ⟨75, _⟩ => ⟨S2x32x128x7168, .f32⟩
  | .hbm, ⟨76, _⟩ => ⟨S_, .f32⟩
  | .hbm, ⟨77, _⟩ => ⟨S2x32x7168, .f32⟩
  | .hbm, ⟨78, _⟩ => ⟨S2x32x1x7168, .f32⟩
  | .hbm, ⟨79, _⟩ => ⟨S_, .f32⟩
  | .hbm, ⟨80, _⟩ => ⟨S2x32x1x7168, .f32⟩
  | .hbm, ⟨81, _⟩ => ⟨S2x32x1x7168, .f32⟩
  | .hbm, ⟨82, _⟩ => ⟨S_, .f32⟩
  | .hbm, ⟨83, _⟩ => ⟨S2x32x1x7168, .f32⟩
  | .hbm, ⟨84, _⟩ => ⟨S_, .f32⟩
  | .hbm, ⟨85, _⟩ => ⟨S2x32x1x7168, .f32⟩
  | .hbm, ⟨86, _⟩ => ⟨S2x32x1x7168, .f32⟩
  | .hbm, ⟨87, _⟩ => ⟨S2x32x1x7168, .f32⟩
  | .hbm, ⟨88, _⟩ => ⟨S2x32x1x7168, .f32⟩
  | .hbm, ⟨89, _⟩ => ⟨S2x32x1x7168, .f32⟩
  | .hbm, ⟨90, _⟩ => ⟨S_, .f32⟩
  | .hbm, ⟨91, _⟩ => ⟨S2x32x1x7168, .f32⟩
  | .hbm, ⟨92, _⟩ => ⟨S2x32x1x7168, .f32⟩
  | .hbm, ⟨93, _⟩ => ⟨S_, .f32⟩
  | .hbm, ⟨94, _⟩ => ⟨S2x32x1x7168, .f32⟩
  | .hbm, ⟨95, _⟩ => ⟨S2x32x1x7168, .i1⟩
  | .hbm, ⟨96, _⟩ => ⟨S2x32x1x7168, .f32⟩
  | .hbm, ⟨97, _⟩ => ⟨S2x32x1x7168, .f32⟩
  | .hbm, ⟨98, _⟩ => ⟨S2x32x1x7168, .f32⟩
  | .hbm, ⟨99, _⟩ => ⟨S2x32x1x7168, .f32⟩
  | .hbm, ⟨100, _⟩ => ⟨S2x32x1x7168, .f32⟩
  | .hbm, ⟨101, _⟩ => ⟨S2x32x128x7168, .f32⟩
  | .hbm, ⟨102, _⟩ => ⟨S2x32x128x7168, .f32⟩
  | .hbm, ⟨103, _⟩ => ⟨S_, .f32⟩
  | .hbm, ⟨104, _⟩ => ⟨S2x32x128x7168, .f32⟩
  | .hbm, ⟨105, _⟩ => ⟨S2x32x128x7168, .f32⟩
  | .hbm, ⟨106, _⟩ => ⟨S_, .f32⟩
  | .hbm, ⟨107, _⟩ => ⟨S2x32x128x7168, .f32⟩
  | .hbm, ⟨108, _⟩ => ⟨S2x32x128x7168, .f32⟩
  | .hbm, ⟨109, _⟩ => ⟨S8192x7168, .f32⟩
  | .hbm, ⟨110, _⟩ => ⟨S8192x56, .f32⟩
  | .hbm, ⟨111, _⟩ => ⟨S8192x7168, .f32⟩
  | .hbm, ⟨112, _⟩ => ⟨S2x32x7168, .f32⟩
  | .hbm, ⟨113, _⟩ => ⟨S2x4096x7168, .bf16⟩
  | .hbm, ⟨114, _⟩ => ⟨S8192x7168, .bf16⟩
  | .hbm, ⟨115, _⟩ => ⟨S8192x7168, .fp8e4m3⟩
  | .hbm, ⟨116, _⟩ => ⟨S8192x7168, .fp8e4m3⟩
  | .local _ .vmem, ⟨0, _⟩ => ⟨S8192x7168, .f32⟩
  | .local _ .vmem, ⟨1, _⟩ => ⟨S8192x7168, .f32⟩
  | .local _ .vmem, ⟨2, _⟩ => ⟨S8192x7168, .fp8e4m3⟩
  | .local _ .vmem, ⟨3, _⟩ => ⟨S8192x7168, .fp8e4m3⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88_0 : Ref sig .tc := ⟨.hbm, 115, rfl⟩
abbrev main_v88_1 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRuns.lean ====
/-
  THE KERNEL RUNS: from any memory it terminates without a fault, its argument arrays end unchanged and every counter ends at zero.
  Nothing is said of what it leaves in its outputs: every window is held at some contents before and after the body, and so is
  every scratch buffer. The two counted loops keep that form from trip to trip.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.Pipeline.FrameBody
public import proofs.«01_k».proof.Proof.Gen.Kernel.Points

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A memref's elements on core `c`, held whole at some contents of its buffer. -/
abbrev some (c : Dev nD) {S : Shape} {e : EltTy} (M : Memref sig .tc .vmem S e) : sProp 𝕄 :=
  iprop(∃ f : Buf (Elt F) (M.view.loc (c : Thread nD τ)), M.view.loc (c : Thread nD τ) ↦[M.view.set]{fullShare} f)

section Body

variable (c : Dev nD) (i : grid0.Coords)
    (arg1 : Memref sig .tc .vmem S2x128 .f32) (harg1 : arg1.IsWhole)
    (arg2 : Memref sig .tc .vmem S7168 .f32) (harg2 : arg2.IsWhole)
    (arg3 : Memref sig .tc .vmem S128x7168 .bf16) (harg3 : arg3.IsWhole)
    (arg4 : Memref sig .tc .vmem S128x7168 .bf16) (harg4 : arg4.IsWhole)
    (arg5 : Memref sig .tc .vmem S128x7168 .bf16) (harg5 : arg5.IsWhole)
    (arg6 : Memref sig .tc .vmem S128x7168 .bf16) (harg6 : arg6.IsWhole)
    (arg7 : Memref sig .tc .vmem S128x7168 .bf16) (harg7 : arg7.IsWhole)
    (arg8 : Memref sig .tc .vmem S128x7168 .bf16) (harg8 : arg8.IsWhole)
    (arg9 : Memref sig .tc .vmem S7168 .f32) (harg9 : arg9.IsWhole)
    (arg10 : Memref sig .tc .vmem S1x8x7168 .f32) (harg10 : arg10.IsWhole)
    (arg11 : Memref sig .tc .vmem S128x7168 .fp8e4m3) (harg11 : arg11.IsWhole)
    (arg12 : Memref sig .tc .vmem S128x56 .f32) (harg12 : arg12.IsWhole)
    (arg13 : Memref sig .tc .vmem S128x7168 .fp8e4m3) (harg13 : arg13.IsWhole)
    (arg14 : Memref sig .tc .vmem S1x8x7168 .f32) (harg14 : arg14.IsWhole)
    (arg15 : Memref sig .tc .vmem S1x7168 .f32) (harg15 : arg15.IsWhole)
    (arg16 : Memref sig .tc .vmem S1x7168 .f32) (harg16 : arg16.IsWhole)
    (arg17 : Memref sig .tc .vmem S128x7168 .f32) (harg17 : arg17.IsWhole)
    (arg18 : Memref sig .tc .vmem S128x128 .f32) (harg18 : arg18.IsWhole)
    (arg19 : Memref sig .tc .vmem S128x128 .f32) (harg19 : arg19.IsWhole)
    (arg20 : Memref sig .tc .vmem S128x128 .f32) (harg20 : arg20.IsWhole)

/-- One trip of the first loop. -/
theorem trip1 (v3 : IVec S8x128 1) (k : Fin k0_t1_loop.trips) :
    iprop(some c arg3 ∗ some c arg5 ∗ some c arg6 ∗ some c arg7 ∗ some c arg10 ∗ some c arg15 ∗ some c arg16 ∗ some c arg17 ∗ some c arg18 ∗ some c arg19 : sProp 𝕄)
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 0#32 1#32 k ()) (fun _ => iprop(some c arg3 ∗ some c arg5 ∗ some c arg6 ∗ some c arg7 ∗ some c arg10 ∗ some c arg15 ∗ some c arg16 ∗ some c arg17 ∗ some c arg18 ∗ some c arg19)) := by
  unfold k0_t1_body
  iintro ⟨⟨%f3, H3⟩, ⟨%f5, H5⟩, ⟨%f6, H6⟩, ⟨%f7, H7⟩, ⟨%f10, H10⟩, ⟨%f15, H15⟩, ⟨%f16, H16⟩, ⟨%f17, H17⟩, ⟨%f18, H18⟩, ⟨%f19, H19⟩⟩
  sl_exec
  sl_step
  isplitl [H3]
  · iexists _; iexact H3
  isplitl [H5]
  · iexists _; iexact H5
  isplitl [H6]
  · iexists _; iexact H6
  isplitl [H7]
  · iexists _; iexact H7
  isplitl [H10]
  · iexists _; iexact H10
  isplitl [H15]
  · iexists _; iexact H15
  isplitl [H16]
  · iexists _; iexact H16
  isplitl [H17]
  · iexists _; iexact H17
  isplitl [H18]
  · iexists _; iexact H18
  iexists _; iexact H19

/-- The first loop's invariant. -/
@[sl_loop] def loopInv1 (v3 : IVec S8x128 1) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 0#32 1#32 where
  inv _ _ := iprop(some c arg3 ∗ some c arg5 ∗ some c arg6 ∗ some c arg7 ∗ some c arg10 ∗ some c arg15 ∗ some c arg16 ∗ some c arg17 ∗ some c arg18 ∗ some c arg19)
  step k _ := trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 k

/-- One trip of the second loop. -/
theorem trip2 (v3 : IVec S8x128 1) (v49 : IVec S128x56 32) (k : Fin k0_t2_loop.trips) :
    iprop(some c arg3 ∗ some c arg4 ∗ some c arg8 ∗ some c arg11 ∗ some c arg12 ∗ some c arg13 ∗ some c arg14 ∗ some c arg15 ∗ some c arg17 ∗ some c arg18 ∗ some c arg20 : sProp 𝕄)
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 k ()) (fun _ => iprop(some c arg3 ∗ some c arg4 ∗ some c arg8 ∗ some c arg11 ∗ some c arg12 ∗ some c arg13 ∗ some c arg14 ∗ some c arg15 ∗ some c arg17 ∗ some c arg18 ∗ some c arg20)) := by
  unfold k0_t2_body
  iintro ⟨⟨%f3, H3⟩, ⟨%f4, H4⟩, ⟨%f8, H8⟩, ⟨%f11, H11⟩, ⟨%f12, H12⟩, ⟨%f13, H13⟩, ⟨%f14, H14⟩, ⟨%f15, H15⟩, ⟨%f17, H17⟩, ⟨%f18, H18⟩, ⟨%f20, H20⟩⟩
  sl_exec
  sl_step
  isplitl [H3]
  · iexists _; iexact H3
  isplitl [H4]
  · iexists _; iexact H4
  isplitl [H8]
  · iexists _; iexact H8
  isplitl [H11]
  · iexists _; iexact H11
  isplitl [H12]
  · iexists _; iexact H12
  isplitl [H13]
  · iexists _; iexact H13
  isplitl [H14]
  · iexists _; iexact H14
  isplitl [H15]
  · iexists _; iexact H15
  isplitl [H17]
  · iexists _; iexact H17
  isplitl [H18]
  · iexists _; iexact H18
  iexists _; iexact H20

/-- The second loop's invariant. -/
@[sl_loop] def loopInv2 (v3 : IVec S8x128 1) (v49 : IVec S128x56 32) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 where
  inv _ _ := iprop(some c arg3 ∗ some c arg4 ∗ some c arg8 ∗ some c arg11 ∗ some c arg12 ∗ some c arg13 ∗ some c arg14 ∗ some c arg15 ∗ some c arg17 ∗ some c arg18 ∗ some c arg20)
  step k _ := trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 k

/-- The whole body: every operand at some contents before and after. -/
theorem body_runs :
    iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20 : sProp 𝕄)
      ⊢ wp frame (wpE (defs₀ (F := F)) Variants.none (c : Thread nD τ) none) Set.univ
          (cc0_rmsnorm_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20)) := by
  simp only [cc0_rmsnorm_bwd_quant_eq_skeleton]; unfold cc0_rmsnorm_bwd_quant_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  sl_exec
  sl_step
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- The same with a continuation. -/
theorem body_runs' (K : PUnit → sProp 𝕄) :
    iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20 ∗ (iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20) -∗ K ⟨⟩) : sProp 𝕄)
      ⊢ wp frame (wpE (defs₀ (F := F)) Variants.none (c : Thread nD τ) none) Set.univ
          (cc0_rmsnorm_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H1, H2, H3, H4, H5, H6, H7, H8, H9, H10, H11, H12, H13, H14, H15, H16, H17, H18, H19, H20, HK⟩
  iapply (wp_wand_r frame _)
  isplitl [H1 H2 H3 H4 H5 H6 H7 H8 H9 H10 H11 H12 H13 H14 H15 H16 H17 H18 H19 H20]
  · iapply (body_runs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
    (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); iexact H20
  · iintro %a H
    iapply HK; iexact H

end Body

/-! ## The proof data and the body obligation -/

variable (m : (ℓ : Loc nD τ sig) → Buf (Elt F) ℓ) (ρ : Dev nD → PrngReg)

/-- Every window forgotten. -/
def forgets0 : Fin 14 → Bool := fun _ => true

/-- The proof data on core `c`: the arrays as the region finds them, the rest unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The class invariant, its scratch buffers written as the body's operands are. -/
theorem PhiA_eq (c : Dev nD) :
    (Pipeline.ΦA spec0 c : sProp 𝕄) = iprop(iprop((some c (Memref.whole cc0_scratch0)) ∗ (some c (Memref.whole cc0_scratch1)) ∗ (some c (Memref.whole cc0_scratch2)) ∗ (some c (Memref.whole cc0_scratch3)) ∗ (some c (Memref.whole cc0_scratch4)) ∗ (some c (Memref.whole cc0_scratch5))) ∗ ∃ r, prngReg c r) := by
  unfold Pipeline.ΦA; rw [scopedRest0_eq]
  simp only [some, View.set_whole]

/-- A staging buffer owned at some contents is its elements at some contents of the buffer. -/
theorem owns_some {S : Shape} {e : EltTy} (c : Dev nD) (M : Memref sig .tc .vmem S e) :
    (iprop(∃ d, owns (c : Thread nD τ) M fullShare d) : sProp 𝕄) ⊢ some c M := by
  unfold owns
  iintro ⟨%d, %f, -, H⟩
  iexists f; iexact H

theorem some_owns {S : Shape} {e : EltTy} (c : Dev nD) (M : Memref sig .tc .vmem S e) :
    (some c M : sProp 𝕄) ⊢ iprop(∃ d, owns (c : Thread nD τ) M fullShare d) := by
  unfold owns
  iintro ⟨%f, H⟩
  iexists _, f; isplitr; swap; · iexact H
  ipureintro; rfl

def bodyPre (c : Dev nD) (t : Fin cfg0.N) : sProp 𝕄 :=
  iprop((dats m 0 c).Φ t.castSucc ∗ (dats m 0 c).owesAt () t.castSucc ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d) ∗ (∃ d, owns (c : Thread nD τ) ((cfg0.win 7).stage (cfg0.slots t 7)) fullShare d) ∗ (∃ d, owns (c : Thread nD τ) ((cfg0.win 8).stage (cfg0.slots t 8)) fullShare d) ∗ (∃ d, owns (c : Thread nD τ) ((cfg0.win 9).stage (cfg0.slots t 9)) fullShare d) ∗ (∃ d, owns (c : Thread nD τ) ((cfg0.win 10).stage (cfg0.slots t 10)) fullShare d) ∗ (∃ d, owns (c : Thread nD τ) ((cfg0.win 11).stage (cfg0.slots t 11)) fullShare d) ∗ (∃ d, owns (c : Thread nD τ) ((cfg0.win 12).stage (cfg0.slots t 12)) fullShare d) ∗ (∃ d, owns (c : Thread nD τ) ((cfg0.win 13).stage (cfg0.slots t 13)) fullShare d))
def bodyPost (c : Dev nD) (t : Fin cfg0.N) : sProp 𝕄 :=
  iprop((dats m 0 c).Φ t.succ ∗ (dats m 0 c).owesAt () t.succ ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d) ∗ (∃ d, owns (c : Thread nD τ) ((cfg0.win 7).stage (cfg0.slots t 7)) fullShare d) ∗ (∃ d, owns (c : Thread nD τ) ((cfg0.win 8).stage (cfg0.slots t 8)) fullShare d) ∗ (∃ d, owns (c : Thread nD τ) ((cfg0.win 9).stage (cfg0.slots t 9)) fullShare d) ∗ (∃ d, owns (c : Thread nD τ) ((cfg0.win 10).stage (cfg0.slots t 10)) fullShare d) ∗ (∃ d, owns (c : Thread nD τ) ((cfg0.win 11).stage (cfg0.slots t 11)) fullShare d) ∗ (∃ d, owns (c : Thread nD τ) ((cfg0.win 12).stage (cfg0.slots t 12)) fullShare d) ∗ (∃ d, owns (c : Thread nD τ) ((cfg0.win 13).stage (cfg0.slots t 13)) fullShare d))

set_option maxHeartbeats 2000000 in
/-- The body at a point: the staging buffers and the scratch handed to it and taken back, what the core owes carried past it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5⟩, Hg⟩, HO, W0, W1, W2, W3, W4, W5, W6, W7, W8, W9, W10, W11, W12, W13⟩
  ihave X0 := (owns_some c _) $$ W0
  ihave X1 := (owns_some c _) $$ W1
  ihave X2 := (owns_some c _) $$ W2
  ihave X3 := (owns_some c _) $$ W3
  ihave X4 := (owns_some c _) $$ W4
  ihave X5 := (owns_some c _) $$ W5
  ihave X6 := (owns_some c _) $$ W6
  ihave X7 := (owns_some c _) $$ W7
  ihave X8 := (owns_some c _) $$ W8
  ihave X9 := (owns_some c _) $$ W9
  ihave X10 := (owns_some c _) $$ W10
  ihave X11 := (owns_some c _) $$ W11
  ihave X12 := (owns_some c _) $$ W12
  ihave X13 := (owns_some c _) $$ W13
  iapply (body_runs' c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _)
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X8]; · iexact X8
  isplitl [X9]; · iexact X9
  isplitl [X10]; · iexact X10
  isplitl [X11]; · iexact X11
  isplitl [X12]; · iexact X12
  isplitl [X13]; · iexact X13
  isplitl [S0]; · iexact S0
  isplitl [S1]; · iexact S1
  isplitl [S2]; · iexact S2
  isplitl [S3]; · iexact S3
  isplitl [S4]; · iexact S4
  isplitl [S5]; · iexact S5
  iintro ⟨X0, X1, X2, X3, X4, X5, X6, X7, X8, X9, X10, X11, X12, X13, S0, S1, S2, S3, S4, S5⟩
  isplitl [S0 S1 S2 S3 S4 S5 Hg]
  · isplitl [S0 S1 S2 S3 S4 S5]
    · (isplitl [S0]; · iexact S0); (isplitl [S1]; · iexact S1); (isplitl [S2]; · iexact S2); (isplitl [S3]; · iexact S3); (isplitl [S4]; · iexact S4); iexact S5
    · iexact Hg
  isplitl [HO]; · iexact HO
  isplitl [X0]
  · iapply (some_owns c _); iexact X0
  isplitl [X1]
  · iapply (some_owns c _); iexact X1
  isplitl [X2]
  · iapply (some_owns c _); iexact X2
  isplitl [X3]
  · iapply (some_owns c _); iexact X3
  isplitl [X4]
  · iapply (some_owns c _); iexact X4
  isplitl [X5]
  · iapply (some_owns c _); iexact X5
  isplitl [X6]
  · iapply (some_owns c _); iexact X6
  isplitl [X7]
  · iapply (some_owns c _); iexact X7
  isplitl [X8]
  · iapply (some_owns c _); iexact X8
  isplitl [X9]
  · iapply (some_owns c _); iexact X9
  isplitl [X10]
  · iapply (some_owns c _); iexact X10
  isplitl [X11]
  · iapply (some_owns c _); iexact X11
  isplitl [X12]
  · iapply (some_owns c _); iexact X12
  iapply (some_owns c _); iexact X13

theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters, every execution ends, with the arrays no window stages at their launch contents and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- THE FRAME: the arguments end unchanged and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
    ((h.1 c).2 main_arg0 (Pipeline.mem_restRefs_of main_arg0 (by decide) (by decide))).trans (V_main_arg0 m c),
    (h.1.arr_in c 0 rfl).trans ((A_eq m c 0).trans (V_main_arg1 m c)),
    (h.1.arr_in c 1 rfl).trans ((A_eq m c 1).trans (V_main_arg2 m c)),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

end Cert.Kernel.Hand

end
-- ==== Proof.KernelIdealRuns.lean ====
/-
  THE KERNEL RUNS: from any memory it terminates without a fault, its argument arrays end unchanged and every counter ends at zero.
  Nothing is said of what it leaves in its outputs: every window is held at some contents before and after the body, and so is
  every scratch buffer. The two counted loops keep that form from trip to trip.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.Pipeline.FrameBody
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- A memref's elements on core `c`, held whole at some contents of its buffer. -/
abbrev some (c : Dev nD) {S : Shape} {e : EltTy} (M : Memref sig .tc .vmem S e) : sProp 𝕄 :=
  iprop(∃ f : Buf (Elt F) (M.view.loc (c : Thread nD τ)), M.view.loc (c : Thread nD τ) ↦[M.view.set]{fullShare} f)

section Body

variable (c : Dev nD) (i : grid0.Coords)
    (arg1 : Memref sig .tc .vmem S2x128 .f32) (harg1 : arg1.IsWhole)
    (arg2 : Memref sig .tc .vmem S7168 .f32) (harg2 : arg2.IsWhole)
    (arg3 : Memref sig .tc .vmem S128x7168 .bf16) (harg3 : arg3.IsWhole)
    (arg4 : Memref sig .tc .vmem S128x7168 .bf16) (harg4 : arg4.IsWhole)
    (arg5 : Memref sig .tc .vmem S128x7168 .bf16) (harg5 : arg5.IsWhole)
    (arg6 : Memref sig .tc .vmem S128x7168 .bf16) (harg6 : arg6.IsWhole)
    (arg7 : Memref sig .tc .vmem S128x7168 .bf16) (harg7 : arg7.IsWhole)
    (arg8 : Memref sig .tc .vmem S128x7168 .bf16) (harg8 : arg8.IsWhole)
    (arg9 : Memref sig .tc .vmem S7168 .f32) (harg9 : arg9.IsWhole)
    (arg10 : Memref sig .tc .vmem S1x8x7168 .f32) (harg10 : arg10.IsWhole)
    (arg11 : Memref sig .tc .vmem S128x7168 .fp8e4m3) (harg11 : arg11.IsWhole)
    (arg12 : Memref sig .tc .vmem S128x56 .f32) (harg12 : arg12.IsWhole)
    (arg13 : Memref sig .tc .vmem S128x7168 .fp8e4m3) (harg13 : arg13.IsWhole)
    (arg14 : Memref sig .tc .vmem S1x8x7168 .f32) (harg14 : arg14.IsWhole)
    (arg15 : Memref sig .tc .vmem S1x7168 .f32) (harg15 : arg15.IsWhole)
    (arg16 : Memref sig .tc .vmem S1x7168 .f32) (harg16 : arg16.IsWhole)
    (arg17 : Memref sig .tc .vmem S128x7168 .f32) (harg17 : arg17.IsWhole)
    (arg18 : Memref sig .tc .vmem S128x128 .f32) (harg18 : arg18.IsWhole)
    (arg19 : Memref sig .tc .vmem S128x128 .f32) (harg19 : arg19.IsWhole)
    (arg20 : Memref sig .tc .vmem S128x128 .f32) (harg20 : arg20.IsWhole)

/-- One trip of the first loop. -/
theorem trip1 (v3 : IVec S8x128 1) (k : Fin k0_t1_loop.trips) :
    iprop(some c arg3 ∗ some c arg5 ∗ some c arg6 ∗ some c arg7 ∗ some c arg10 ∗ some c arg15 ∗ some c arg16 ∗ some c arg17 ∗ some c arg18 ∗ some c arg19 : sProp 𝕄)
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 0#32 1#32 k ()) (fun _ => iprop(some c arg3 ∗ some c arg5 ∗ some c arg6 ∗ some c arg7 ∗ some c arg10 ∗ some c arg15 ∗ some c arg16 ∗ some c arg17 ∗ some c arg18 ∗ some c arg19)) := by
  unfold k0_t1_body
  iintro ⟨⟨%f3, H3⟩, ⟨%f5, H5⟩, ⟨%f6, H6⟩, ⟨%f7, H7⟩, ⟨%f10, H10⟩, ⟨%f15, H15⟩, ⟨%f16, H16⟩, ⟨%f17, H17⟩, ⟨%f18, H18⟩, ⟨%f19, H19⟩⟩
  sl_exec
  sl_step
  isplitl [H3]
  · iexists _; iexact H3
  isplitl [H5]
  · iexists _; iexact H5
  isplitl [H6]
  · iexists _; iexact H6
  isplitl [H7]
  · iexists _; iexact H7
  isplitl [H10]
  · iexists _; iexact H10
  isplitl [H15]
  · iexists _; iexact H15
  isplitl [H16]
  · iexists _; iexact H16
  isplitl [H17]
  · iexists _; iexact H17
  isplitl [H18]
  · iexists _; iexact H18
  iexists _; iexact H19

/-- The first loop's invariant. -/
@[sl_loop] def loopInv1 (v3 : IVec S8x128 1) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 0#32 1#32 where
  inv _ _ := iprop(some c arg3 ∗ some c arg5 ∗ some c arg6 ∗ some c arg7 ∗ some c arg10 ∗ some c arg15 ∗ some c arg16 ∗ some c arg17 ∗ some c arg18 ∗ some c arg19)
  step k _ := trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 k

/-- One trip of the second loop. -/
theorem trip2 (v3 : IVec S8x128 1) (v49 : IVec S128x56 32) (k : Fin k0_t2_loop.trips) :
    iprop(some c arg3 ∗ some c arg4 ∗ some c arg8 ∗ some c arg11 ∗ some c arg12 ∗ some c arg13 ∗ some c arg14 ∗ some c arg15 ∗ some c arg17 ∗ some c arg18 ∗ some c arg20 : sProp 𝕄)
      ⊢ wp frame (wpE (defs₀ (F := F)) Variants.none (c : Thread nD τ) none) Set.univ
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 k ()) (fun _ => iprop(some c arg3 ∗ some c arg4 ∗ some c arg8 ∗ some c arg11 ∗ some c arg12 ∗ some c arg13 ∗ some c arg14 ∗ some c arg15 ∗ some c arg17 ∗ some c arg18 ∗ some c arg20)) := by
  unfold k0_t2_body
  iintro ⟨⟨%f3, H3⟩, ⟨%f4, H4⟩, ⟨%f8, H8⟩, ⟨%f11, H11⟩, ⟨%f12, H12⟩, ⟨%f13, H13⟩, ⟨%f14, H14⟩, ⟨%f15, H15⟩, ⟨%f17, H17⟩, ⟨%f18, H18⟩, ⟨%f20, H20⟩⟩
  sl_exec
  sl_step
  isplitl [H3]
  · iexists _; iexact H3
  isplitl [H4]
  · iexists _; iexact H4
  isplitl [H8]
  · iexists _; iexact H8
  isplitl [H11]
  · iexists _; iexact H11
  isplitl [H12]
  · iexists _; iexact H12
  isplitl [H13]
  · iexists _; iexact H13
  isplitl [H14]
  · iexists _; iexact H14
  isplitl [H15]
  · iexists _; iexact H15
  isplitl [H17]
  · iexists _; iexact H17
  isplitl [H18]
  · iexists _; iexact H18
  iexists _; iexact H20

/-- The second loop's invariant. -/
@[sl_loop] def loopInv2 (v3 : IVec S8x128 1) (v49 : IVec S128x56 32) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 where
  inv _ _ := iprop(some c arg3 ∗ some c arg4 ∗ some c arg8 ∗ some c arg11 ∗ some c arg12 ∗ some c arg13 ∗ some c arg14 ∗ some c arg15 ∗ some c arg17 ∗ some c arg18 ∗ some c arg20)
  step k _ := trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 k

/-- The whole body: every operand at some contents before and after. -/
theorem body_runs :
    iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20 : sProp 𝕄)
      ⊢ wp frame (wpE (defs₀ (F := F)) Variants.none (c : Thread nD τ) none) Set.univ
          (cc0_rmsnorm_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20)) := by
  simp only [cc0_rmsnorm_bwd_quant_eq_skeleton]; unfold cc0_rmsnorm_bwd_quant_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  sl_exec
  sl_step
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  iexists _; iexact H20

/-- The same with a continuation. -/
theorem body_runs' (K : PUnit → sProp 𝕄) :
    iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20 ∗ (iprop(some c arg1 ∗ some c arg2 ∗ some c arg3 ∗ some c arg4 ∗ some c arg5 ∗ some c arg6 ∗ some c arg7 ∗ some c arg8 ∗ some c arg9 ∗ some c arg10 ∗ some c arg11 ∗ some c arg12 ∗ some c arg13 ∗ some c arg14 ∗ some c arg15 ∗ some c arg16 ∗ some c arg17 ∗ some c arg18 ∗ some c arg19 ∗ some c arg20) -∗ K ⟨⟩) : sProp 𝕄)
      ⊢ wp frame (wpE (defs₀ (F := F)) Variants.none (c : Thread nD τ) none) Set.univ
          (cc0_rmsnorm_bwd_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H1, H2, H3, H4, H5, H6, H7, H8, H9, H10, H11, H12, H13, H14, H15, H16, H17, H18, H19, H20, HK⟩
  iapply (wp_wand_r frame _)
  isplitl [H1 H2 H3 H4 H5 H6 H7 H8 H9 H10 H11 H12 H13 H14 H15 H16 H17 H18 H19 H20]
  · iapply (body_runs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
    (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); iexact H20
  · iintro %a H
    iapply HK; iexact H

end Body

/-! ## The proof data and the body obligation -/

variable (m : (ℓ : Loc nD τ sig) → Buf (Elt F) ℓ) (ρ : Dev nD → PrngReg)

/-- Every window forgotten. -/
def forgets0 : Fin 14 → Bool := fun _ => true

/-- The proof data on core `c`: the arrays as the region finds them, the rest unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The class invariant, its scratch buffers written as the body's operands are. -/
theorem PhiA_eq (c : Dev nD) :
    (Pipeline.ΦA spec0 c : sProp 𝕄) = iprop(iprop((some c (Memref.whole cc0_scratch0)) ∗ (some c (Memref.whole cc0_scratch1)) ∗ (some c (Memref.whole cc0_scratch2)) ∗ (some c (Memref.whole cc0_scratch3)) ∗ (some c (Memref.whole cc0_scratch4)) ∗ (some c (Memref.whole cc0_scratch5))) ∗ ∃ r, prngReg c r) := by
  unfold Pipeline.ΦA; rw [scopedRest0_eq]
  simp only [some, View.set_whole]

/-- A staging buffer owned at some contents is its elements at some contents of the buffer. -/
theorem owns_some {S : Shape} {e : EltTy} (c : Dev nD) (M : Memref sig .tc .vmem S e) :
    (iprop(∃ d, owns (c : Thread nD τ) M fullShare d) : sProp 𝕄) ⊢ some c M := by
  unfold owns
  iintro ⟨%d, %f, -, H⟩
  iexists f; iexact H

theorem some_owns {S : Shape} {e : EltTy} (c : Dev nD) (M : Memref sig .tc .vmem S e) :
    (some c M : sProp 𝕄) ⊢ iprop(∃ d, owns (c : Thread nD τ) M fullShare d) := by
  unfold owns
  iintro ⟨%f, H⟩
  iexists _, f; isplitr; swap; · iexact H
  ipureintro; rfl

def bodyPre (c : Dev nD) (t : Fin cfg0.N) : sProp 𝕄 :=
  iprop((dats m 0 c).Φ t.castSucc ∗ (dats m 0 c).owesAt () t.castSucc ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d) ∗ (∃ d, owns (c : Thread nD τ) ((cfg0.win 7).stage (cfg0.slots t 7)) fullShare d) ∗ (∃ d, owns (c : Thread nD τ) ((cfg0.win 8).stage (cfg0.slots t 8)) fullShare d) ∗ (∃ d, owns (c : Thread nD τ) ((cfg0.win 9).stage (cfg0.slots t 9)) fullShare d) ∗ (∃ d, owns (c : Thread nD τ) ((cfg0.win 10).stage (cfg0.slots t 10)) fullShare d) ∗ (∃ d, owns (c : Thread nD τ) ((cfg0.win 11).stage (cfg0.slots t 11)) fullShare d) ∗ (∃ d, owns (c : Thread nD τ) ((cfg0.win 12).stage (cfg0.slots t 12)) fullShare d) ∗ (∃ d, owns (c : Thread nD τ) ((cfg0.win 13).stage (cfg0.slots t 13)) fullShare d))
def bodyPost (c : Dev nD) (t : Fin cfg0.N) : sProp 𝕄 :=
  iprop((dats m 0 c).Φ t.succ ∗ (dats m 0 c).owesAt () t.succ ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d) ∗ (∃ d, owns (c : Thread nD τ) ((cfg0.win 7).stage (cfg0.slots t 7)) fullShare d) ∗ (∃ d, owns (c : Thread nD τ) ((cfg0.win 8).stage (cfg0.slots t 8)) fullShare d) ∗ (∃ d, owns (c : Thread nD τ) ((cfg0.win 9).stage (cfg0.slots t 9)) fullShare d) ∗ (∃ d, owns (c : Thread nD τ) ((cfg0.win 10).stage (cfg0.slots t 10)) fullShare d) ∗ (∃ d, owns (c : Thread nD τ) ((cfg0.win 11).stage (cfg0.slots t 11)) fullShare d) ∗ (∃ d, owns (c : Thread nD τ) ((cfg0.win 12).stage (cfg0.slots t 12)) fullShare d) ∗ (∃ d, owns (c : Thread nD τ) ((cfg0.win 13).stage (cfg0.slots t 13)) fullShare d))

set_option maxHeartbeats 2000000 in
/-- The body at a point: the staging buffers and the scratch handed to it and taken back, what the core owes carried past it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5⟩, Hg⟩, HO, W0, W1, W2, W3, W4, W5, W6, W7, W8, W9, W10, W11, W12, W13⟩
  ihave X0 := (owns_some c _) $$ W0
  ihave X1 := (owns_some c _) $$ W1
  ihave X2 := (owns_some c _) $$ W2
  ihave X3 := (owns_some c _) $$ W3
  ihave X4 := (owns_some c _) $$ W4
  ihave X5 := (owns_some c _) $$ W5
  ihave X6 := (owns_some c _) $$ W6
  ihave X7 := (owns_some c _) $$ W7
  ihave X8 := (owns_some c _) $$ W8
  ihave X9 := (owns_some c _) $$ W9
  ihave X10 := (owns_some c _) $$ W10
  ihave X11 := (owns_some c _) $$ W11
  ihave X12 := (owns_some c _) $$ W12
  ihave X13 := (owns_some c _) $$ W13
  iapply (body_runs' c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) _)
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X8]; · iexact X8
  isplitl [X9]; · iexact X9
  isplitl [X10]; · iexact X10
  isplitl [X11]; · iexact X11
  isplitl [X12]; · iexact X12
  isplitl [X13]; · iexact X13
  isplitl [S0]; · iexact S0
  isplitl [S1]; · iexact S1
  isplitl [S2]; · iexact S2
  isplitl [S3]; · iexact S3
  isplitl [S4]; · iexact S4
  isplitl [S5]; · iexact S5
  iintro ⟨X0, X1, X2, X3, X4, X5, X6, X7, X8, X9, X10, X11, X12, X13, S0, S1, S2, S3, S4, S5⟩
  isplitl [S0 S1 S2 S3 S4 S5 Hg]
  · isplitl [S0 S1 S2 S3 S4 S5]
    · (isplitl [S0]; · iexact S0); (isplitl [S1]; · iexact S1); (isplitl [S2]; · iexact S2); (isplitl [S3]; · iexact S3); (isplitl [S4]; · iexact S4); iexact S5
    · iexact Hg
  isplitl [HO]; · iexact HO
  isplitl [X0]
  · iapply (some_owns c _); iexact X0
  isplitl [X1]
  · iapply (some_owns c _); iexact X1
  isplitl [X2]
  · iapply (some_owns c _); iexact X2
  isplitl [X3]
  · iapply (some_owns c _); iexact X3
  isplitl [X4]
  · iapply (some_owns c _); iexact X4
  isplitl [X5]
  · iapply (some_owns c _); iexact X5
  isplitl [X6]
  · iapply (some_owns c _); iexact X6
  isplitl [X7]
  · iapply (some_owns c _); iexact X7
  isplitl [X8]
  · iapply (some_owns c _); iexact X8
  isplitl [X9]
  · iapply (some_owns c _); iexact X9
  isplitl [X10]
  · iapply (some_owns c _); iexact X10
  isplitl [X11]
  · iapply (some_owns c _); iexact X11
  isplitl [X12]
  · iapply (some_owns c _); iexact X12
  iapply (some_owns c _); iexact X13

theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- From any memory with zero counters, every execution ends, with the arrays no window stages at their launch contents and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- THE FRAME: the arguments end unchanged and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
    ((h.1 c).2 main_arg0 (Pipeline.mem_restRefs_of main_arg0 (by decide) (by decide))).trans (V_main_arg0 m c),
    (h.1.arr_in c 0 rfl).trans ((A_eq m c 0).trans (V_main_arg1 m c)),
    (h.1.arr_in c 1 rfl).trans ((A_eq m c 1).trans (V_main_arg2 m c)),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

end Cert.KernelIdeal.Hand

end
-- ==== Proof.Math.lean ====
/-
  THE MATHEMATICS of the layer, over the arrays' entries: the gradient of the input, the partial sums of the weights' gradient, the
  largest magnitudes per row group and per column group, and the power-of-two scale of a largest magnitude.
-/
module

public import Idealize.ShloMosaic.Lib.Pointwise
public import Idealize.ShloMosaic.PureOps.Ideal
public import Idealize.ShloMosaic.PureOps.Ideal.Laws
@[expose] public section

set_option maxRecDepth 16384

noncomputable section

namespace Cert.Norm

open Idealize.ShloMosaic

/-- The arrays: input, gradient of the residual, the three gradients that are summed, reciprocal norms, weights. -/
structure In where
  x : Fin 2 → Fin 4096 → Fin 7168 → EReal
  dr : Fin 2 → Fin 4096 → Fin 7168 → EReal
  q : Fin 2 → Fin 4096 → Fin 7168 → EReal
  k : Fin 2 → Fin 4096 → Fin 7168 → EReal
  w : Fin 2 → Fin 4096 → Fin 7168 → EReal
  r : Fin 2 → Fin 4096 → EReal
  g : Fin 7168 → EReal

/-- Row `i` of the flattened array: its batch and its place in the batch. -/
def rb (i : Fin 8192) : Fin 2 := ⟨i.val / 4096, by omega⟩
def rs (i : Fin 8192) : Fin 4096 := ⟨i.val % 4096, by omega⟩
/-- Row `x` of the `a`-th group of 128 rows, and column `x` of the `l`-th group of 128 columns. -/
def gs (a : Fin 32) (x : Fin 128) : Fin 4096 := ⟨a.val * 128 + x.val, by omega⟩
def gl (l : Fin 56) (x : Fin 128) : Fin 7168 := ⟨l.val * 128 + x.val, by omega⟩
/-- The group of 128 rows that row `i` of the flattened array lies in, and the group of 128 columns of column `k`. -/
def ra (i : Fin 8192) : Fin 32 := ⟨i.val / 128 % 32, by omega⟩
def kg (k : Fin 7168) : Fin 56 := ⟨k.val / 128, by omega⟩

namespace In
variable (A : In)

/-- The gradient of the normalised output, and the normalised input. -/
def dN (b : Fin 2) (s : Fin 4096) (l : Fin 7168) : EReal := A.q b s l + A.k b s l + A.w b s l
def xh (b : Fin 2) (s : Fin 4096) (l : Fin 7168) : EReal := A.x b s l * A.r b s
/-- The mean of the weighted gradient against the normalised input. -/
def mean (b : Fin 2) (s : Fin 4096) : EReal :=
  Ideal.div (∑ l, A.dN b s l * A.g l * A.xh b s l) (Ideal.ofBits .f32 1172307968#32)
/-- The gradient of the input. -/
def dx (b : Fin 2) (s : Fin 4096) (l : Fin 7168) : EReal :=
  A.r b s * (A.dN b s l * A.g l - A.xh b s l * A.mean b s) + A.dr b s l
/-- The sum over a group of 128 rows, and over all rows. -/
def part (b : Fin 2) (a : Fin 32) (l : Fin 7168) : EReal := ∑ y : Fin 128, A.dN b (gs a y) l * A.xh b (gs a y) l
def dgamma (l : Fin 7168) : EReal := ∑ b : Fin 2, ∑ a : Fin 32, A.part b a l
/-- The largest magnitude of a row's group of 128 columns, and of a column's group of 128 rows. -/
def rmax (i : Fin 8192) (l : Fin 56) : EReal :=
  Finset.fold max (Ideal.ofBits .f32 4286578688#32) (fun y => FloatOps.absf (F := Ideal) (φ := .f32) (A.dx (rb i) (rs i) (gl l y))) Finset.univ
def cmax (b : Fin 2) (a : Fin 32) (l : Fin 7168) : EReal :=
  Finset.fold max (Ideal.ofBits .f32 4286578688#32) (fun y => FloatOps.absf (F := Ideal) (φ := .f32) (A.dx b (gs a y) l)) Finset.univ
end In

/-- The exponent of the reference's scale at the largest magnitude `a`: the floor of the logarithm to base two (`C` is the reciprocal
of 448, `T` two, `O` one), plus one; and the scale and its reciprocal, one at magnitude zero. -/
def rexp (C T O a : EReal) : EReal := Ideal.liftRound Int.floor (Ideal.div (Ideal.log (a * C)) (Ideal.log T)) + O
def rscale (C T O Z a : EReal) : EReal := Scalar.select (Ideal.cmp .oeq a Z) O (Ideal.pow T (rexp C T O a))
def rinv (C T O Z a : EReal) : EReal := Scalar.select (Ideal.cmp .oeq a Z) O (Ideal.pow T (-(rexp C T O a)))
def qscale (a : EReal) : EReal :=
  rscale (Ideal.ofBits .f32 991054117#32) (Ideal.ofBits .f32 1073741824#32) (Ideal.ofBits .f32 1065353216#32) (Ideal.ofBits .f32 0#32) a
def qinv (a : EReal) : EReal :=
  rinv (Ideal.ofBits .f32 991054117#32) (Ideal.ofBits .f32 1073741824#32) (Ideal.ofBits .f32 1065353216#32) (Ideal.ofBits .f32 0#32) a
/-- The clip to the largest magnitude of the eight-bit format. -/
def qclip (v : EReal) : EReal := min (max v (Ideal.ofBits .f32 3286237184#32)) (Ideal.ofBits .f32 1138753536#32)

/-- Where a scale is claimed: the largest magnitude `a` is zero, or `a` times the reciprocal of 448 is a normal number whose doubled
power of two is one too. -/
def Normal (a : EReal) : Prop := a = 0 ∨ (Ideal.ofBits .f32 8388608#32 ≤ a * Ideal.ofBits .f32 991054117#32 ∧ a * Ideal.ofBits .f32 991054117#32 < Ideal.ofBits .f32 2122317824#32)

end Cert.Norm

end
-- ==== Proof.Mask.lean ====
/-
  THE MASK of the claim read at an index: where it is set, the largest magnitude of the element's group is zero or `Normal`.
-/
module

public import proofs.«01_k».proof.Defs
public import Idealize.ShloMosaic.Lib.Pointwise
public import Idealize.ShloMosaic.Lib.Tactic
public import Idealize.ShloMosaic.PureOps.Ideal.Laws
public import proofs.«01_k».proof.Proof.Math

@[expose] public section

set_option maxRecDepth 16384

noncomputable section

namespace Cert.On_in_range

open Idealize.ShloMosaic Idealize.ShloMosaic.Pointwise Idealize.ShloMosaic.Tactic
open Cert.Norm

namespace Gen

/-- The side conditions of the mask's operations. -/
theorem facts : Facts where
  bcast_S2x4096_S2x4096x1_0_1 := by decide
  bitsLt_bf16_f32 := by decide
  bcast_S2x4096x1_S2x4096x7168_0_1_2 := by decide
  bcast_S7168_S1x1x7168_2 := by decide
  bcast_S1x1x7168_S2x4096x7168_0_1_2 := by decide
  reducesTo_S2x4096x7168_S2x4096_d2 := by decide
  h_S_ := by decide
  bcast_S_S2x4096x1 := by decide
  shapeCasts_S2x4096x7168_S8192x56x128 := by decide
  reducesTo_S8192x56x128_S8192x56_d2 := by decide
  bcast_S8192x56_S8192x56x1_0_1 := by decide
  bcast_S_S8192x56x1 := by decide
  shapeCasts_S2x4096x7168_S2x32x128x7168 := by decide
  reducesTo_S2x32x128x7168_S2x32x7168_d2 := by decide
  bcast_S2x32x7168_S2x32x1x7168_0_1_3 := by decide
  bcast_S_S2x32x1x7168 := by decide
  bcast_S_S8192x7168 := by decide
  bcast_S_S7168 := by decide
  bcast_S_S2x32x7168 := by decide
  bcast_S8192x56x1_S8192x56x128_0_1_2 := by decide
  shapeCasts_S8192x56x128_S8192x7168 := by decide
  shapeCasts_S8192x56x1_S8192x56 := by decide
  bcast_S2x32x1x7168_S2x32x128x7168_0_1_2_3 := by decide
  shapeCasts_S2x32x128x7168_S8192x7168 := by decide
  shapeCasts_S2x32x1x7168_S2x32x7168 := by decide

end Gen

variable [Facts]

/-- The mask of one group, of its largest magnitude `a`, over the constants: the reciprocal of 448, the bounds, zero. -/
def gbit (C L H Z a : EReal) : BitVec 1 :=
  IntOp.ori (Ideal.cmp .oeq a Z) (IntOp.andi (Ideal.cmp .oge (a * C) L) (Ideal.cmp .olt (a * C) H))
def bit (a : EReal) : BitVec 1 :=
  gbit (Ideal.ofBits .f32 991054117#32) (Ideal.ofBits .f32 8388608#32) (Ideal.ofBits .f32 2122317824#32) (Ideal.ofBits .f32 0#32) a

theorem bit_at {s : Shape} (h : _) (x : s.Idx → EReal) (cst lo hi zero : S_.Idx → EReal) (C L H Z : EReal)
    (hC : ∀ q, cst q = C) (hL : ∀ q, lo q = L) (hH : ∀ q, hi q = H) (hZ : ∀ q, zero q = Z) (j : s.Idx) :
    (ori (cmpf (F := Ideal) (φ := .f32) CmpFPredicate.oeq x (broadcastInDim s ![] h zero))
      (andi (cmpf (F := Ideal) (φ := .f32) CmpFPredicate.oge (mulf (F := Ideal) (φ := .f32) x (broadcastInDim s ![] h cst)) (broadcastInDim s ![] h lo))
        (cmpf (F := Ideal) (φ := .f32) CmpFPredicate.olt (mulf (F := Ideal) (φ := .f32) x (broadcastInDim s ![] h cst)) (broadcastInDim s ![] h hi))) : s.Idx → BitVec 1) j
      = gbit C L H Z (x j) := by
  dsimp only [ori, andi, cmpf, broadcastInDim, mulf]
  rw [hC, hL, hH, hZ]
  rfl

theorem bool_one {b : Bool} (h : BitVec.ofBool b = 1#1) : b = true := by
  cases b
  · exact absurd h (by decide)
  · rfl

theorem or_one : ∀ x y : BitVec 1, IntOp.ori x y = 1#1 → x = 1#1 ∨ y = 1#1 := by decide
theorem and_one : ∀ x y : BitVec 1, IntOp.andi x y = 1#1 → x = 1#1 ∧ y = 1#1 := by decide

theorem normal_of_bit (a : EReal) (h : bit a = 1#1) : Normal a := by
  unfold bit gbit at h
  rcases or_one _ _ h with h | h
  · refine Or.inl ?_
    have := bool_one h
    simpa [Ideal.ofBits_zero] using this
  · obtain ⟨h1, h2⟩ := and_one _ _ h
    have h1 := bool_one h1
    have h2 := bool_one h2
    exact Or.inr ⟨of_decide_eq_true h1, of_decide_eq_true h2⟩

/-- Part 3: the four masks that depend on the data. -/
theorem p3_row (v38 : IVec S8192x56x1 1) (v52 : IVec S2x32x1x7168 1) (v53 : IVec S8192x7168 1) (v54 : IVec S7168 1) (v55 : IVec S2x32x7168 1)
    (i : Fin 8192) (l : Fin 56) (v56 : IVec S8192x56x128 1) :
    (fn_part3 (F := Ideal) v38 v52 v53 v54 v55 v56).2.2.2.2.1 (ix2 i l) = v38 (ix3 i l 0) := by
  unfold fn_part3
  pointwise

theorem p3_rowc (v38 : IVec S8192x56x1 1) (v52 : IVec S2x32x1x7168 1) (v53 : IVec S8192x7168 1) (v54 : IVec S7168 1) (v55 : IVec S2x32x7168 1)
    (i : Fin 8192) (k : Fin 7168) (v56 : IVec S8192x56x128 1) :
    (fn_part3 (F := Ideal) v38 v52 v53 v54 v55 v56).2.2.2.1 (ix2 i k) = v56 (ix3 i (kg k) ⟨k.val % 128, by omega⟩) := by
  unfold fn_part3
  pointwise
  rfl

theorem p3_col (v38 : IVec S8192x56x1 1) (v52 : IVec S2x32x1x7168 1) (v53 : IVec S8192x7168 1) (v54 : IVec S7168 1) (v55 : IVec S2x32x7168 1)
    (b : Fin 2) (a : Fin 32) (k : Fin 7168) (v56 : IVec S8192x56x128 1) :
    (fn_part3 (F := Ideal) v38 v52 v53 v54 v55 v56).2.2.2.2.2.2 (ix3 b a k) = v52 (ix4 b a 0 k) := by
  unfold fn_part3
  pointwise

theorem p3_colc (v38 : IVec S8192x56x1 1) (v52 : IVec S2x32x1x7168 1) (v53 : IVec S8192x7168 1) (v54 : IVec S7168 1) (v55 : IVec S2x32x7168 1)
    (i : Fin 8192) (k : Fin 7168) (v56 : IVec S8192x56x128 1) :
    (fn_part3 (F := Ideal) v38 v52 v53 v54 v55 v56).2.2.2.2.2.1 (ix2 i k) = v52 (ix4 (rb i) (ra i) 0 k) := by
  unfold fn_part3
  pointwise
  rfl

/-- Part 2: the row masks pass through, the column mask is of the column group's largest magnitude. -/
theorem p2_row (v38 : IVec S8192x56x1 1) (v40 : FVec Ideal S2x32x128x7168 .f32) (i : Fin 8192) (l : Fin 56) :
    (fn_part2 (F := Ideal) v38 v40).2.2.2.2.1 (ix2 i l) = v38 (ix3 i l 0) := by
  unfold fn_part2
  exact p3_row _ _ _ _ _ _ _ _

theorem p2_rowc (v38 : IVec S8192x56x1 1) (v40 : FVec Ideal S2x32x128x7168 .f32) (i : Fin 8192) (k : Fin 7168) :
    (fn_part2 (F := Ideal) v38 v40).2.2.2.1 (ix2 i k) = v38 (ix3 i (kg k) 0) := by
  unfold fn_part2
  refine (p3_rowc _ _ _ _ _ _ _ _).trans ?_
  pointwise

/-- The largest entry of a column group. -/
def cfold (v40 : S2x32x128x7168.Idx → EReal) (b : Fin 2) (a : Fin 32) (k : Fin 7168) : EReal :=
  Finset.fold max (Ideal.ofBits .f32 4286578688#32) (fun y => v40 (ix4 b a y k)) Finset.univ
/-- The largest entry of a row group. -/
def rfold (v26 : S8192x56x128.Idx → EReal) (i : Fin 8192) (l : Fin 56) : EReal :=
  Finset.fold max (Ideal.ofBits .f32 4286578688#32) (fun y => v26 (ix3 i l y)) Finset.univ

theorem p2_col (v38 : IVec S8192x56x1 1) (v40 : FVec Ideal S2x32x128x7168 .f32) (b : Fin 2) (a : Fin 32) (k : Fin 7168) :
    (fn_part2 (F := Ideal) v38 v40).2.2.2.2.2.2 (ix3 b a k) = bit (cfold v40 b a k) := by
  unfold fn_part2
  refine (p3_col _ _ _ _ _ _ _ _ _).trans ((bit_at _ _ _ _ _ _ _ _ _ _ (fun _ => rfl) (fun _ => rfl) (fun _ => rfl) (fun _ => rfl) _).trans (congrArg bit ?_))
  unfold cfold
  pointwise

theorem p2_colc (v38 : IVec S8192x56x1 1) (v40 : FVec Ideal S2x32x128x7168 .f32) (i : Fin 8192) (k : Fin 7168) :
    (fn_part2 (F := Ideal) v38 v40).2.2.2.2.2.1 (ix2 i k) = bit (cfold v40 (rb i) (ra i) k) := by
  unfold fn_part2
  refine (p3_colc _ _ _ _ _ _ _ _).trans ((bit_at _ _ _ _ _ _ _ _ _ _ (fun _ => rfl) (fun _ => rfl) (fun _ => rfl) (fun _ => rfl) _).trans (congrArg bit ?_))
  unfold cfold
  pointwise

/-- Part 1: the masks over the gradient of the input. -/
def dx1 (v3 : S2x4096x7168.Idx → EReal) (v21 : S2x4096x7168.Idx → EReal) (b : Fin 2) (s : Fin 4096) (k : Fin 7168) : EReal :=
  FloatOps.absf (F := Ideal) (φ := .f32) (v21 (ix3 b s k) + v3 (ix3 b s k))

def rfold1 (v3 v21 : S2x4096x7168.Idx → EReal) (i : Fin 8192) (l : Fin 56) : EReal :=
  Finset.fold max (Ideal.ofBits .f32 4286578688#32) (fun y => dx1 v3 v21 (rb i) (rs i) (gl l y)) Finset.univ
def cfold1 (v3 v21 : S2x4096x7168.Idx → EReal) (b : Fin 2) (a : Fin 32) (k : Fin 7168) : EReal :=
  Finset.fold max (Ideal.ofBits .f32 4286578688#32) (fun y => dx1 v3 v21 b (gs a y) k) Finset.univ

theorem p1_row (a3 : FVec Ideal S2x4096x7168 .bf16) (v5 v8 v21 : FVec Ideal S2x4096x7168 .f32) (i : Fin 8192) (l : Fin 56) :
    (fn_part1 (F := Ideal) a3 v5 v8 v21).2.2.2.2.1 (ix2 i l) = bit (rfold1 a3 v21 i l) := by
  unfold fn_part1
  refine (p2_row _ _ _ _).trans ((bit_at _ _ _ _ _ _ _ _ _ _ (fun _ => rfl) (fun _ => rfl) (fun _ => rfl) (fun _ => rfl) _).trans (congrArg bit ?_))
  unfold rfold1
  pointwise
  rfl

theorem p1_rowc (a3 : FVec Ideal S2x4096x7168 .bf16) (v5 v8 v21 : FVec Ideal S2x4096x7168 .f32) (i : Fin 8192) (k : Fin 7168) :
    (fn_part1 (F := Ideal) a3 v5 v8 v21).2.2.2.1 (ix2 i k) = bit (rfold1 a3 v21 i (kg k)) := by
  unfold fn_part1
  refine (p2_rowc _ _ _ _).trans ((bit_at _ _ _ _ _ _ _ _ _ _ (fun _ => rfl) (fun _ => rfl) (fun _ => rfl) (fun _ => rfl) _).trans (congrArg bit ?_))
  unfold rfold1
  pointwise
  rfl

theorem p1_col (a3 : FVec Ideal S2x4096x7168 .bf16) (v5 v8 v21 : FVec Ideal S2x4096x7168 .f32) (b : Fin 2) (a : Fin 32) (k : Fin 7168) :
    (fn_part1 (F := Ideal) a3 v5 v8 v21).2.2.2.2.2.2 (ix3 b a k) = bit (cfold1 a3 v21 b a k) := by
  unfold fn_part1
  refine (p2_col _ _ _ _ _).trans ?_
  unfold cfold
  pointwise
  rfl

theorem p1_colc (a3 : FVec Ideal S2x4096x7168 .bf16) (v5 v8 v21 : FVec Ideal S2x4096x7168 .f32) (i : Fin 8192) (k : Fin 7168) :
    (fn_part1 (F := Ideal) a3 v5 v8 v21).2.2.2.2.2.1 (ix2 i k) = bit (cfold1 a3 v21 (rb i) (ra i) k) := by
  unfold fn_part1
  refine (p2_colc _ _ _ _).trans ?_
  unfold cfold
  pointwise
  rfl

section Whole
variable (a0 : FVec Ideal S2x4096x7168 .bf16) (a1 : FVec Ideal S2x4096 .f32) (a2 : FVec Ideal S7168 .f32) (a3 a4 a5 a6 : FVec Ideal S2x4096x7168 .bf16)

/-- The mask's arguments. -/
def arr : In where
  x b s l := (a0 : S2x4096x7168.Idx → EReal) (ix3 b s l)
  dr b s l := (a3 : S2x4096x7168.Idx → EReal) (ix3 b s l)
  q b s l := (a4 : S2x4096x7168.Idx → EReal) (ix3 b s l)
  k b s l := (a5 : S2x4096x7168.Idx → EReal) (ix3 b s l)
  w b s l := (a6 : S2x4096x7168.Idx → EReal) (ix3 b s l)
  r b s := (a1 : S2x4096.Idx → EReal) (ix2 b s)
  g l := (a2 : S7168.Idx → EReal) (ix1 l)

/-- The line before part 1. -/
theorem fn_eq : ∃ v5 v8 v21 : FVec Ideal S2x4096x7168 .f32, fn (F := Ideal) a0 a1 a2 a3 a4 a5 a6 = fn_part1 (F := Ideal) a3 v5 v8 v21 ∧
    ∀ b s k, (v21 : S2x4096x7168.Idx → EReal) (ix3 b s k) + (a3 : S2x4096x7168.Idx → EReal) (ix3 b s k) = (arr a0 a1 a2 a3 a4 a5 a6).dx b s k := by
  unfold fn
  refine ⟨_, _, _, rfl, fun b s k => ?_⟩
  pointwise
  rfl

theorem rfold_eq (v21 : S2x4096x7168.Idx → EReal) (h : ∀ b s k, v21 (ix3 b s k) + (a3 : S2x4096x7168.Idx → EReal) (ix3 b s k) = (arr a0 a1 a2 a3 a4 a5 a6).dx b s k)
    (i : Fin 8192) (l : Fin 56) : rfold1 a3 v21 i l = (arr a0 a1 a2 a3 a4 a5 a6).rmax i l :=
  congrArg (fun f : Fin 128 → EReal => Finset.fold (max : EReal → EReal → EReal) (Ideal.ofBits .f32 4286578688#32) f Finset.univ)
    (funext fun y => congrArg (FloatOps.absf (F := Ideal) (φ := .f32)) (h (rb i) (rs i) (gl l y)))

theorem cfold_eq (v21 : S2x4096x7168.Idx → EReal) (h : ∀ b s k, v21 (ix3 b s k) + (a3 : S2x4096x7168.Idx → EReal) (ix3 b s k) = (arr a0 a1 a2 a3 a4 a5 a6).dx b s k)
    (b : Fin 2) (a : Fin 32) (k : Fin 7168) : cfold1 a3 v21 b a k = (arr a0 a1 a2 a3 a4 a5 a6).cmax b a k :=
  congrArg (fun f : Fin 128 → EReal => Finset.fold (max : EReal → EReal → EReal) (Ideal.ofBits .f32 4286578688#32) f Finset.univ)
    (funext fun y => congrArg (FloatOps.absf (F := Ideal) (φ := .f32)) (h b (gs a y) k))

/-- The mask of the row codes, the row scales, the column codes and the column scales. -/
theorem rowc (i : Fin 8192) (k : Fin 7168) (h : (fn (F := Ideal) a0 a1 a2 a3 a4 a5 a6).2.2.2.1 (ix2 i k) = 1#1) :
    Normal ((arr a0 a1 a2 a3 a4 a5 a6).rmax i (kg k)) := by
  obtain ⟨v5, v8, v21, e, h21⟩ := fn_eq a0 a1 a2 a3 a4 a5 a6
  rw [e, p1_rowc, rfold_eq a0 a1 a2 a3 a4 a5 a6 v21 h21] at h
  exact normal_of_bit _ h

theorem row (i : Fin 8192) (l : Fin 56) (h : (fn (F := Ideal) a0 a1 a2 a3 a4 a5 a6).2.2.2.2.1 (ix2 i l) = 1#1) :
    Normal ((arr a0 a1 a2 a3 a4 a5 a6).rmax i l) := by
  obtain ⟨v5, v8, v21, e, h21⟩ := fn_eq a0 a1 a2 a3 a4 a5 a6
  rw [e, p1_row, rfold_eq a0 a1 a2 a3 a4 a5 a6 v21 h21] at h
  exact normal_of_bit _ h

theorem colc (i : Fin 8192) (k : Fin 7168) (h : (fn (F := Ideal) a0 a1 a2 a3 a4 a5 a6).2.2.2.2.2.1 (ix2 i k) = 1#1) :
    Normal ((arr a0 a1 a2 a3 a4 a5 a6).cmax (rb i) (ra i) k) := by
  obtain ⟨v5, v8, v21, e, h21⟩ := fn_eq a0 a1 a2 a3 a4 a5 a6
  rw [e, p1_colc, cfold_eq a0 a1 a2 a3 a4 a5 a6 v21 h21] at h
  exact normal_of_bit _ h

theorem col (b : Fin 2) (a : Fin 32) (k : Fin 7168) (h : (fn (F := Ideal) a0 a1 a2 a3 a4 a5 a6).2.2.2.2.2.2 (ix3 b a k) = 1#1) :
    Normal ((arr a0 a1 a2 a3 a4 a5 a6).cmax b a k) := by
  obtain ⟨v5, v8, v21, e, h21⟩ := fn_eq a0 a1 a2 a3 a4 a5 a6
  rw [e, p1_col, cfold_eq a0 a1 a2 a3 a4 a5 a6 v21 h21] at h
  exact normal_of_bit _ h

end Whole

end Cert.On_in_range

end
-- ==== Proof.Pays.lean ====
/-
  THE KERNEL'S VALUES, ELEMENT BY ELEMENT: what each stored vector is at an index, in the values the body loaded.
-/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.Pointwise

section
variable [Cert.KernelIdeal.Facts]

/-- The kernel's named constant is one over the width. -/
theorem inv_d : Named.named (F := Ideal) Cert.KernelIdeal.κ "inv_d" (φ := .f32) 957499685#32 = ((1 / 7168 : ℝ) : EReal) :=
  IdealRules.named_const.ideal_named_scalar _ _ _ _ rfl

/-- One step of the search for the exponent field: the bit is kept unless the value is below the power of two it makes. -/
def step (t : EReal) (e b : BitVec 32) : BitVec 32 :=
  if t < Ideal.ofBits .f32 (IntOp.addi e b) then e else IntOp.addi e b

/-- The first two steps, and the last six. -/
def expoHi (t : EReal) : BitVec 32 := step t (step t 0#32 1073741824#32) 536870912#32
def expoLo (t : EReal) (e : BitVec 32) : BitVec 32 :=
  step t (step t (step t (step t (step t (step t e 268435456#32) 134217728#32) 67108864#32) 33554432#32) 16777216#32) 8388608#32

/-- The exponent field of a value, found by eight steps from the highest bit. -/
def expo (t : EReal) : BitVec 32 := expoLo t (expoHi t)

/-- The scale of a group whose largest magnitude over 448 is `t`, and the factor its elements are multiplied by. -/
def scaleOf (t : EReal) : EReal := if t = 0 then 1 else Ideal.ofBits .f32 (IntOp.addi (expo t) 8388608#32)
def invOf (t : EReal) : EReal := if t = 0 then 1 else Ideal.ofBits .f32 (IntOp.subi 2122317824#32 (expo t))

/-- A value held between -448 and 448. -/
def clip (v : EReal) : EReal := min (Ideal.ofBits .f32 1138753536#32) (max (Ideal.ofBits .f32 3286237184#32) v)

/-- The largest magnitude of 128 values, over 448. -/
def tmax (f : Fin 128 → EReal) : EReal :=
  Finset.fold max (Ideal.ofBits .f32 4286578688#32) (fun k => FloatOps.absf (F := Ideal) (φ := .f32) (f k)) Finset.univ
    * Ideal.ofBits .f32 991054117#32

/-- A step on vectors, as the body writes it. -/
def vstep {s : Shape} (t : FVec Ideal s .f32) (e : IVec s 32) (b : BitVec 32) : IVec s 32 :=
  select (cmpf .olt t (bitcastToFloat .f32 (addi e (broadcast s b)))) e (addi e (broadcast s b))

theorem vstep_at {s : Shape} (t : FVec Ideal s .f32) (e : IVec s 32) (b : BitVec 32) (j : s.Idx) :
    vstep t e b j = step (t j) (e j) b := by
  pointwise [vstep, step]

theorem pay1_at (a x r : FVec Ideal S128x128 .f32) (j : S128x128.Idx) :
    k0_pay1 (F := Ideal) a x r j = a j * (x j * r j) := by
  pointwise [k0_pay1]

theorem pay2_at (a x r : FVec Ideal S128x128 .f32) (z : Fin 1) (l : Fin 128) :
    k0_pay2 (F := Ideal) a x r (ix2 z l) = ∑ k : Fin 128, a (ix2 k l) * (x (ix2 k l) * r (ix2 k l)) := by
  pointwise [k0_pay2, k0_pay1]

theorem pay3_at (a x r : FVec Ideal S128x128 .f32) (z : Fin 1) (s : Fin 8) (l : Fin 128) :
    k0_pay3 (F := Ideal) a x r (ix3 z s l) = ∑ k : Fin 128, a (ix2 k l) * (x (ix2 k l) * r (ix2 k l)) := by
  pointwise [k0_pay3, k0_pay2, k0_pay1]

theorem pay4_at (m : IVec S8x128 1) (z : Fin 1) (s : Fin 8) (l : Fin 128) :
    k0_pay4 m (ix3 z s l) = m (ix2 s l) := by
  pointwise [k0_pay4]

theorem pay14_at (m : IVec S8x128 1) (z : Fin 1) (s : Fin 8) (l : Fin 128) :
    k0_pay14 m (ix3 z s l) = m (ix2 s l) := by
  pointwise [k0_pay14]

theorem pay5_at (a x r : FVec Ideal S128x128 .f32) (d : FVec Ideal S1x128 .f32) (z : Fin 1) (l : Fin 128) :
    k0_pay5 (F := Ideal) a x r d (ix2 z l) = d (ix2 z l) + ∑ k : Fin 128, a (ix2 k l) * (x (ix2 k l) * r (ix2 k l)) := by
  pointwise [k0_pay5, k0_pay2, k0_pay1]

theorem pay6_at (a x r : FVec Ideal S128x128 .f32) (d : FVec Ideal S128x128 .f32) (g : FVec Ideal S1x128 .f32) (r1 : Fin 128) (l : Fin 128) :
    k0_pay6 (F := Ideal) a x r d g (ix2 r1 l) = d (ix2 r1 l) + (a (ix2 r1 l) * (x (ix2 r1 l) * r (ix2 r1 l))) * g (ix2 0 l) := by
  pointwise [k0_pay6, k0_pay1]

theorem pay7_at (a r : FVec Ideal S128x128 .f32) (r1 : Fin 128) (l : Fin 128) :
    k0_pay7 (F := Ideal) a r (ix2 r1 l) = ((∑ k : Fin 128, a (ix2 r1 k)) * ((1 / 7168 : ℝ) : EReal)) * r (ix2 r1 l) := by
  pointwise [k0_pay7]
  rw [inv_d]

theorem pay8_at (a : FVec Ideal S1x7168 .f32) (l : Fin 7168) :
    k0_pay8 (F := Ideal) a (ix1 l) = a (ix2 0 l) := by
  pointwise [k0_pay8]

theorem pay9_at (q k w : FVec Ideal S128x128 .bf16) (j : S128x128.Idx) :
    k0_pay9 (F := Ideal) q k w j = (q j + k j) + w j := by
  pointwise [k0_pay9]

theorem pay10_at (q k w : FVec Ideal S128x128 .bf16) (j : S128x128.Idx) :
    k0_pay10 (F := Ideal) q k w j = (q j + k j) + w j := by
  pointwise [k0_pay10, k0_pay9]

theorem pay11_at (q k w : FVec Ideal S128x128 .bf16) (x : FVec Ideal S128x128 .bf16) (r : FVec Ideal S128x128 .f32) (j : S128x128.Idx) :
    k0_pay11 (F := Ideal) q k w x r j = ((q j + k j) + w j) * (x j * r j) := by
  pointwise [k0_pay11, k0_pay9]

theorem pay12_at (q k w : FVec Ideal S128x128 .bf16) (x : FVec Ideal S128x128 .bf16) (r : FVec Ideal S128x128 .f32) (z : Fin 1) (l : Fin 128) :
    k0_pay12 (F := Ideal) q k w x r (ix2 z l) = ∑ i : Fin 128, ((q (ix2 i l) + k (ix2 i l)) + w (ix2 i l)) * (x (ix2 i l) * r (ix2 i l)) := by
  pointwise [k0_pay12, k0_pay11, k0_pay9]

theorem pay13_at (q k w : FVec Ideal S128x128 .bf16) (x : FVec Ideal S128x128 .bf16) (r : FVec Ideal S128x128 .f32) (z : Fin 1) (s : Fin 8) (l : Fin 128) :
    k0_pay13 (F := Ideal) q k w x r (ix3 z s l) = ∑ i : Fin 128, ((q (ix2 i l) + k (ix2 i l)) + w (ix2 i l)) * (x (ix2 i l) * r (ix2 i l)) := by
  pointwise [k0_pay13, k0_pay12, k0_pay11, k0_pay9]

theorem pay15_at (s d : FVec Ideal S1x128 .f32) (j : S1x128.Idx) :
    k0_pay15 (F := Ideal) s d j = d j + s j := by
  pointwise [k0_pay15]

theorem pay16_at (p d : FVec Ideal S128x128 .f32) (g : FVec Ideal S1x128 .f32) (r1 : Fin 128) (l : Fin 128) :
    k0_pay16 (F := Ideal) p d g (ix2 r1 l) = d (ix2 r1 l) + p (ix2 r1 l) * g (ix2 0 l) := by
  pointwise [k0_pay16]

theorem pay17_at (q k w : FVec Ideal S128x128 .bf16) (j : S128x128.Idx) :
    k0_pay17 (F := Ideal) q k w j = (q j + k j) + w j := by
  pointwise [k0_pay17]

theorem pay18_at (q k w : FVec Ideal S128x128 .bf16) (j : S128x128.Idx) :
    k0_pay18 (F := Ideal) q k w j = (q j + k j) + w j := by
  pointwise [k0_pay18, k0_pay17]

theorem pay19_at (x : FVec Ideal S128x128 .bf16) (j : S128x128.Idx) :
    k0_pay19 (F := Ideal) x j = x j := by
  pointwise [k0_pay19]

theorem pay20_at (r d : FVec Ideal S128x128 .f32) (g : FVec Ideal S1x128 .f32) (x : FVec Ideal S128x128 .bf16) (cr : FVec Ideal S128x128 .f32) (dr : FVec Ideal S128x128 .bf16) (a l : Fin 128) :
    k0_pay20 (F := Ideal) r d g x cr dr (ix2 a l) = r (ix2 a l) * (d (ix2 a l) * g (ix2 0 l) - x (ix2 a l) * cr (ix2 a l)) + dr (ix2 a l) := by
  pointwise [k0_pay20]

theorem pay21_at (r d : FVec Ideal S128x128 .f32) (g : FVec Ideal S1x128 .f32) (x : FVec Ideal S128x128 .bf16) (cr : FVec Ideal S128x128 .f32) (dr : FVec Ideal S128x128 .bf16) (a l : Fin 128) :
    k0_pay21 (F := Ideal) r d g x cr dr (ix2 a l) = k0_pay20 (F := Ideal) r d g x cr dr (ix2 a l) := by
  pointwise [k0_pay21]

theorem pay39_at (r d : FVec Ideal S128x128 .f32) (g : FVec Ideal S1x128 .f32) (x : FVec Ideal S128x128 .bf16) (cr : FVec Ideal S128x128 .f32) (dr : FVec Ideal S128x128 .bf16) (a l : Fin 128) :
    k0_pay39 (F := Ideal) r d g x cr dr (ix2 a l) = r (ix2 a l) * (d (ix2 a l) * g (ix2 0 l) - x (ix2 a l) * cr (ix2 a l)) + dr (ix2 a l) := by
  pointwise [k0_pay39]

theorem pay40_at (r d : FVec Ideal S128x128 .f32) (g : FVec Ideal S1x128 .f32) (x : FVec Ideal S128x128 .bf16) (cr : FVec Ideal S128x128 .f32) (dr : FVec Ideal S128x128 .bf16) (a l : Fin 128) :
    k0_pay40 (F := Ideal) r d g x cr dr (ix2 a l) = k0_pay39 (F := Ideal) r d g x cr dr (ix2 a l) := by
  pointwise [k0_pay40]

theorem pay23_at (r d : FVec Ideal S128x128 .f32) (g : FVec Ideal S1x128 .f32) (x : FVec Ideal S128x128 .bf16) (cr : FVec Ideal S128x128 .f32) (dr : FVec Ideal S128x128 .bf16) (a : Fin 128) (z : Fin 1) :
    k0_pay23 (F := Ideal) r d g x cr dr (ix2 a z) = tmax fun l => k0_pay20 (F := Ideal) r d g x cr dr (ix2 a l) := by
  pointwise [k0_pay23, k0_pay22, tmax]

theorem pay42_at (r d : FVec Ideal S128x128 .f32) (g : FVec Ideal S1x128 .f32) (x : FVec Ideal S128x128 .bf16) (cr : FVec Ideal S128x128 .f32) (dr : FVec Ideal S128x128 .bf16) (a : Fin 128) (z : Fin 1) :
    k0_pay42 (F := Ideal) r d g x cr dr (ix2 a z) = tmax fun l => k0_pay39 (F := Ideal) r d g x cr dr (ix2 a l) := by
  pointwise [k0_pay42, k0_pay41, tmax]

theorem pay29_at (r d : FVec Ideal S128x128 .f32) (g : FVec Ideal S1x128 .f32) (x : FVec Ideal S128x128 .bf16) (cr : FVec Ideal S128x128 .f32) (dr : FVec Ideal S128x128 .bf16) (z : Fin 1) (l : Fin 128) :
    k0_pay29 (F := Ideal) (k0_pay22 r d g x cr dr) (ix2 z l) = tmax fun a => k0_pay20 (F := Ideal) r d g x cr dr (ix2 a l) := by
  pointwise [k0_pay29, k0_pay22, tmax]

theorem pay48_at (r d : FVec Ideal S128x128 .f32) (g : FVec Ideal S1x128 .f32) (x : FVec Ideal S128x128 .bf16) (cr : FVec Ideal S128x128 .f32) (dr : FVec Ideal S128x128 .bf16) (z : Fin 1) (l : Fin 128) :
    k0_pay48 (F := Ideal) (k0_pay41 r d g x cr dr) (ix2 z l) = tmax fun a => k0_pay39 (F := Ideal) r d g x cr dr (ix2 a l) := by
  pointwise [k0_pay48, k0_pay41, tmax]

theorem pay24_at (r d : FVec Ideal S128x128 .f32) (g : FVec Ideal S1x128 .f32) (x : FVec Ideal S128x128 .bf16) (cr : FVec Ideal S128x128 .f32) (dr : FVec Ideal S128x128 .bf16) (a : Fin 128) (z : Fin 1) :
    k0_pay24 (F := Ideal) r d g x cr dr (ix2 a z) = step (k0_pay23 (F := Ideal) r d g x cr dr (ix2 a z)) 0#32 1073741824#32 := by
  rw [show k0_pay24 (F := Ideal) r d g x cr dr = (vstep (k0_pay23 (F := Ideal) r d g x cr dr) (broadcast S128x1 0#32) 1073741824#32) from rfl]; simp only [vstep_at]; rfl

theorem pay43_at (r d : FVec Ideal S128x128 .f32) (g : FVec Ideal S1x128 .f32) (x : FVec Ideal S128x128 .bf16) (cr : FVec Ideal S128x128 .f32) (dr : FVec Ideal S128x128 .bf16) (a : Fin 128) (z : Fin 1) :
    k0_pay43 (F := Ideal) r d g x cr dr (ix2 a z) = expoHi (k0_pay42 (F := Ideal) r d g x cr dr (ix2 a z)) := by
  rw [show k0_pay43 (F := Ideal) r d g x cr dr = (vstep (k0_pay42 (F := Ideal) r d g x cr dr) (vstep (k0_pay42 (F := Ideal) r d g x cr dr) (broadcast S128x1 0#32) 1073741824#32) 536870912#32) from rfl]; simp only [vstep_at]; rfl

theorem pay25_at (t : FVec Ideal S128x1 .f32) (e : IVec S128x1 32) (j : S128x1.Idx) :
    k0_pay25 (F := Ideal) t e j = expoLo (t j) (step (t j) (e j) 536870912#32) := by
  rw [show k0_pay25 (F := Ideal) t e = (vstep t (vstep t (vstep t (vstep t (vstep t (vstep t (vstep t e 536870912#32) 268435456#32) 134217728#32) 67108864#32) 33554432#32) 16777216#32) 8388608#32) from rfl]; simp only [vstep_at]; rfl

theorem pay44_at (t : FVec Ideal S128x1 .f32) (e : IVec S128x1 32) (j : S128x1.Idx) :
    k0_pay44 (F := Ideal) t e j = expoLo (t j) (e j) := by
  rw [show k0_pay44 (F := Ideal) t e = (vstep t (vstep t (vstep t (vstep t (vstep t (vstep t e 268435456#32) 134217728#32) 67108864#32) 33554432#32) 16777216#32) 8388608#32) from rfl]; simp only [vstep_at]; rfl

theorem pay30_at (v : FVec Ideal S128x128 .f32) (j : S1x128.Idx) :
    k0_pay30 (F := Ideal) v j = expo (k0_pay29 (F := Ideal) v j) := by
  rw [show k0_pay30 (F := Ideal) v = (vstep (k0_pay29 (F := Ideal) v) (vstep (k0_pay29 (F := Ideal) v) (vstep (k0_pay29 (F := Ideal) v) (vstep (k0_pay29 (F := Ideal) v) (vstep (k0_pay29 (F := Ideal) v) (vstep (k0_pay29 (F := Ideal) v) (vstep (k0_pay29 (F := Ideal) v) (vstep (k0_pay29 (F := Ideal) v) (broadcast S1x128 0#32) 1073741824#32) 536870912#32) 268435456#32) 134217728#32) 67108864#32) 33554432#32) 16777216#32) 8388608#32) from rfl]; simp only [vstep_at]; rfl

theorem pay49_at (t : FVec Ideal S1x128 .f32) (j : S1x128.Idx) :
    k0_pay49 (F := Ideal) t 0#32 j = expo (t j) := by
  rw [show k0_pay49 (F := Ideal) t 0#32 = (vstep t (vstep t (vstep t (vstep t (vstep t (vstep t (vstep t (vstep t (broadcast S1x128 0#32) 1073741824#32) 536870912#32) 268435456#32) 134217728#32) 67108864#32) 33554432#32) 16777216#32) 8388608#32) from rfl]; simp only [vstep_at]; rfl

theorem pay27_at (t : FVec Ideal S128x1 .f32) (e : IVec S128x1 32) (j : S128x1.Idx) (h : e j = step (t j) 0#32 1073741824#32) :
    k0_pay27 (F := Ideal) t e j = scaleOf (t j) := by
  pointwise [k0_pay27, k0_pay26, scaleOf]; rw [pay25_at, h]; rfl

theorem pay28_at (t : FVec Ideal S128x1 .f32) (e : IVec S128x1 32) (j : S128x1.Idx) (h : e j = step (t j) 0#32 1073741824#32) :
    k0_pay28 (F := Ideal) t e j = invOf (t j) := by
  pointwise [k0_pay28, k0_pay26, invOf]; rw [pay25_at, h]; rfl

theorem pay46_at (t : FVec Ideal S128x1 .f32) (e : IVec S128x1 32) (j : S128x1.Idx) (h : e j = expoHi (t j)) :
    k0_pay46 (F := Ideal) t e j = scaleOf (t j) := by
  pointwise [k0_pay46, k0_pay45, scaleOf]; rw [pay44_at, h]; rfl

theorem pay47_at (t : FVec Ideal S128x1 .f32) (e : IVec S128x1 32) (j : S128x1.Idx) (h : e j = expoHi (t j)) :
    k0_pay47 (F := Ideal) t e j = invOf (t j) := by
  pointwise [k0_pay47, k0_pay45, invOf]; rw [pay44_at, h]; rfl

theorem pay33_at (v : FVec Ideal S128x128 .f32) (t : FVec Ideal S128x1 .f32) (a l : Fin 128) : k0_pay33 (F := Ideal) v t (ix2 a l) = clip (v (ix2 a l) * t (ix2 a 0)) := by
  pointwise [k0_pay33, clip]

theorem pay53_at (v : FVec Ideal S128x128 .f32) (t : FVec Ideal S128x1 .f32) (a l : Fin 128) : k0_pay53 (F := Ideal) v t (ix2 a l) = clip (v (ix2 a l) * t (ix2 a 0)) := by
  pointwise [k0_pay53, clip]

theorem pay34_at (v : FVec Ideal S128x128 .f32) (w : FVec Ideal S128x128 .f32) (a l : Fin 128) :
    k0_pay34 (F := Ideal) v (k0_pay29 w) (k0_pay30 w) 2122317824#32 (ix2 a l) = clip (v (ix2 a l) * invOf (k0_pay29 (F := Ideal) w (ix2 0 l))) := by
  pointwise [k0_pay34, k0_pay32, clip, invOf]; rw [pay30_at]

theorem pay54_at (v : FVec Ideal S128x128 .f32) (t : FVec Ideal S1x128 .f32) (a l : Fin 128) :
    k0_pay54 (F := Ideal) v (k0_pay51 t 0#32) (k0_pay52 t) (ix2 a l) = clip (v (ix2 a l) * invOf (t (ix2 0 l))) := by
  pointwise [k0_pay54, k0_pay52, k0_pay51, clip, invOf]; rw [pay49_at]

theorem pay35_at (w : FVec Ideal S128x128 .f32) (z : Fin 1) (s : Fin 8) (l : Fin 128) :
    k0_pay35 (F := Ideal) (k0_pay29 w) (k0_pay31 w) (ix3 z s l) = scaleOf (k0_pay29 (F := Ideal) w (ix2 0 l)) := by
  pointwise [k0_pay35, k0_pay32, k0_pay31, scaleOf]; rw [pay30_at]

theorem pay55_at (t : FVec Ideal S1x128 .f32) (z : Fin 1) (s : Fin 8) (l : Fin 128) :
    k0_pay55 (F := Ideal) (k0_pay50 t 0#32) (k0_pay52 t) (ix3 z s l) = scaleOf (t (ix2 0 l)) := by
  pointwise [k0_pay55, k0_pay52, k0_pay50, scaleOf]; rw [pay49_at]

theorem pay36_at (m : IVec S8x128 1) (z : Fin 1) (s : Fin 8) (l : Fin 128) : k0_pay36 m (ix3 z s l) = m (ix2 s l) := by
  pointwise [k0_pay36]

theorem pay56_at (m : IVec S8x128 1) (z : Fin 1) (s : Fin 8) (l : Fin 128) : k0_pay56 m (ix3 z s l) = m (ix2 s l) := by
  pointwise [k0_pay56]

theorem pay37_at (t : FVec Ideal S128x1 .f32) (a : Fin 128) (l : Fin 56) : k0_pay37 (F := Ideal) t (ix2 a l) = t (ix2 a 0) := by
  pointwise [k0_pay37]

theorem pay57_at (t : FVec Ideal S128x1 .f32) (a : Fin 128) (l : Fin 56) : k0_pay57 (F := Ideal) t (ix2 a l) = t (ix2 a 0) := by
  pointwise [k0_pay57]

theorem pay38_at (m : IVec S128x56 32) (w : BitVec 32) (j : S128x56.Idx) : k0_pay38 m w j = IntOp.cmpi .eq (m j) w := by
  pointwise [k0_pay38]

theorem pay58_at (m : IVec S128x56 32) (w : BitVec 32) (j : S128x56.Idx) : k0_pay58 m w j = IntOp.cmpi .eq (m j) w := by
  pointwise [k0_pay58]

theorem pay60_at (g : FVec Ideal S7168 .f32) (z : Fin 1) (l : Fin 7168) : k0_pay60 (F := Ideal) g (ix2 z l) = g (ix1 l) := by
  pointwise [k0_pay60]

theorem pay61_at (j : S1x7168.Idx) : k0_pay61 (F := Ideal) j = 0 := by
  pointwise [k0_pay61]

theorem pay62_at (g : FVec Ideal S1x128 .f32) (a l : Fin 128) : k0_pay62 (F := Ideal) g (ix2 a l) = g (ix2 0 a) := by
  pointwise [k0_pay62]

theorem pay63_at (j : S128x128.Idx) : k0_pay63 (F := Ideal) j = 0 := by
  pointwise [k0_pay63]

end

end Cert.KernelIdeal.Val

end
-- ==== Proof.Expo.lean ====
/-
  THE POWER OF TWO: the eight-step search for the exponent field of a normal value finds the field of the largest power of two not
  above it, so the kernel's scale is two to the floor of the logarithm plus one, the reference's.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Pays
public import proofs.«01_k».proof.Proof.Math

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The word with exponent field `n`, no sign and no fraction, and the power of two it denotes. -/
def wd (n : ℕ) : BitVec 32 := BitVec.ofNat 32 (n * 8388608)
def pw (n : ℕ) : EReal := Ideal.ofBits .f32 (wd n)

theorem wd_parts : ∀ n : Fin 256, ((wd n.val).extractLsb' 31 1 == 1#1) = false ∧ ((wd n.val).extractLsb' 23 8).toNat = n.val
    ∧ ((wd n.val).extractLsb' 0 23).toNat = 0 := by decide +kernel

theorem pw_coe (n : ℕ) (h1 : 1 ≤ n) (h2 : n ≤ 254) : pw n = (((2 : ℝ) ^ ((n : ℤ) - 127) : ℝ) : EReal) := by
  obtain ⟨a, b, c⟩ := wd_parts ⟨n, by omega⟩
  show Ideal.ieee 8 23 (wd n) = _
  unfold Ideal.ieee
  dsimp only at a b c ⊢
  rw [a, b, c, if_neg (by omega), if_neg (by omega)]
  congr 1
  simp only [Bool.false_eq_true, if_false, one_mul, Nat.add_zero]
  have e : (((2 ^ 23 : ℕ)) : ℝ) = (2 : ℝ) ^ (23 : ℤ) := by norm_num
  rw [e, ← zpow_add₀ (by norm_num : (2 : ℝ) ≠ 0)]
  congr 1
  norm_num

theorem pw_top : pw 255 = ⊤ := by
  obtain ⟨a, b, c⟩ := wd_parts ⟨255, by omega⟩
  show Ideal.ieee 8 23 (wd 255) = _
  unfold Ideal.ieee
  dsimp only at a b c ⊢
  rw [a, b, c, if_pos (by norm_num), if_pos rfl]
  rfl

/-- A real between the powers `N` and `N + 1` is below power `n` exactly when `N` is below `n`. -/
theorem lt_pw {x : ℝ} {N : ℕ} (hN : 1 ≤ N) (hM : N ≤ 252) (lo : (2 : ℝ) ^ ((N : ℤ) - 127) ≤ x) (hi : x < (2 : ℝ) ^ ((N : ℤ) - 126))
    (n : ℕ) (h1 : 1 ≤ n) (h2 : n ≤ 255) : ((x : EReal) < pw n) ↔ N < n := by
  rcases Nat.lt_or_ge n 255 with h | h
  · rw [pw_coe n h1 (by omega), EReal.coe_lt_coe_iff]
    constructor
    · intro hx
      by_contra hc
      have : (2 : ℝ) ^ ((n : ℤ) - 127) ≤ (2 : ℝ) ^ ((N : ℤ) - 127) := zpow_le_zpow_right₀ (by norm_num) (by omega)
      linarith
    · intro hn
      have : (2 : ℝ) ^ ((N : ℤ) - 126) ≤ (2 : ℝ) ^ ((n : ℤ) - 127) := zpow_le_zpow_right₀ (by norm_num) (by omega)
      linarith
  · have : n = 255 := by omega
    subst this
    rw [pw_top]
    exact ⟨fun _ => by omega, fun _ => EReal.coe_lt_top x⟩

theorem wd_add (a b : ℕ) : IntOp.addi (wd a) (wd b) = wd (a + b) := by
  unfold IntOp.addi wd
  rw [← BitVec.ofNat_add, Nat.add_mul]

/-- The search on the field itself. -/
def nstep (N n b : ℕ) : ℕ := if N < n + b then n else n + b
def nexpo (N : ℕ) : ℕ :=
  nstep N (nstep N (nstep N (nstep N (nstep N (nstep N (nstep N (nstep N 0 128) 64) 32) 16) 8) 4) 2) 1

theorem nexpo_eq : ∀ N : Fin 253, nexpo N.val = N.val := by decide +kernel

theorem nstep_le {N n b : ℕ} : nstep N n b ≤ n + b := by unfold nstep; split <;> omega

theorem step_wd {x : ℝ} {N : ℕ} (hN : 1 ≤ N) (hM : N ≤ 252) (lo : (2 : ℝ) ^ ((N : ℤ) - 127) ≤ x) (hi : x < (2 : ℝ) ^ ((N : ℤ) - 126))
    (n b : ℕ) (h1 : 1 ≤ b) (h2 : n + b ≤ 255) : step (x : EReal) (wd n) (wd b) = wd (nstep N n b) := by
  unfold step nstep
  rw [wd_add]
  have h := lt_pw hN hM lo hi (n + b) (by omega) h2
  unfold pw at h
  by_cases hc : N < n + b
  · rw [if_pos (h.mpr hc), if_pos hc]
  · rw [if_neg (fun q => hc (h.mp q)), if_neg hc]

theorem expo_wd {x : ℝ} {N : ℕ} (hN : 1 ≤ N) (hM : N ≤ 252) (lo : (2 : ℝ) ^ ((N : ℤ) - 127) ≤ x) (hi : x < (2 : ℝ) ^ ((N : ℤ) - 126)) :
    expo (x : EReal) = wd N := by
  have e : expo (x : EReal) = step x (step x (step x (step x (step x (step x (step x (step x (wd 0) (wd 128)) (wd 64)) (wd 32)) (wd 16)) (wd 8)) (wd 4)) (wd 2)) (wd 1) := rfl
  have S := fun n b h1 h2 => step_wd hN hM lo hi n b h1 h2
  have a1 : nstep N 0 128 ≤ 128 := nstep_le.trans (by omega)
  have a2 : nstep N (nstep N 0 128) 64 ≤ 192 := nstep_le.trans (by omega)
  have a3 : nstep N (nstep N (nstep N 0 128) 64) 32 ≤ 224 := nstep_le.trans (by omega)
  have a4 : nstep N (nstep N (nstep N (nstep N 0 128) 64) 32) 16 ≤ 240 := nstep_le.trans (by omega)
  have a5 : nstep N (nstep N (nstep N (nstep N (nstep N 0 128) 64) 32) 16) 8 ≤ 248 := nstep_le.trans (by omega)
  have a6 : nstep N (nstep N (nstep N (nstep N (nstep N (nstep N 0 128) 64) 32) 16) 8) 4 ≤ 252 := nstep_le.trans (by omega)
  have a7 : nstep N (nstep N (nstep N (nstep N (nstep N (nstep N (nstep N 0 128) 64) 32) 16) 8) 4) 2 ≤ 254 := nstep_le.trans (by omega)
  rw [e, S 0 128 (by omega) (by omega), S _ 64 (by omega) (by omega), S _ 32 (by omega) (by omega), S _ 16 (by omega) (by omega),
    S _ 8 (by omega) (by omega), S _ 4 (by omega) (by omega), S _ 2 (by omega) (by omega), S _ 1 (by omega) (by omega)]
  exact congrArg wd (nexpo_eq ⟨N, by omega⟩)

/-- A normal value is a real with a power of two not above it whose double is above it. -/
theorem exists_field {t : EReal} (h1 : pw 1 ≤ t) (h2 : t < pw 253) : ∃ (x : ℝ) (N : ℕ), t = (x : EReal) ∧ 0 < x ∧ 1 ≤ N ∧ N ≤ 252
    ∧ (2 : ℝ) ^ ((N : ℤ) - 127) ≤ x ∧ x < (2 : ℝ) ^ ((N : ℤ) - 126) := by
  rw [pw_coe 1 (by omega) (by omega)] at h1
  rw [pw_coe 253 (by omega) (by omega)] at h2
  induction t with
  | bot => exact absurd h1 (by simp)
  | top => exact absurd h2 (by simp)
  | coe x =>
    rw [EReal.coe_le_coe_iff] at h1
    rw [EReal.coe_lt_coe_iff] at h2
    have hx : 0 < x := lt_of_lt_of_le (by positivity) h1
    obtain ⟨z, lo, hi⟩ := exists_mem_Ico_zpow (y := (2 : ℝ)) hx (by norm_num)
    have l1 : (-126 : ℤ) ≤ z := by
      by_contra hc
      have : (2 : ℝ) ^ (z + 1) ≤ (2 : ℝ) ^ (((1 : ℕ) : ℤ) - 127) := zpow_le_zpow_right₀ (by norm_num) (by push_cast; omega)
      linarith
    have l2 : z < (126 : ℤ) := by
      by_contra hc
      have : (2 : ℝ) ^ (((253 : ℕ) : ℤ) - 127) ≤ (2 : ℝ) ^ z := zpow_le_zpow_right₀ (by norm_num) (by push_cast; omega)
      linarith
    obtain ⟨N, hN⟩ : ∃ N : ℕ, (N : ℤ) = z + 127 := ⟨(z + 127).toNat, by omega⟩
    have e1 : (N : ℤ) - 127 = z := by omega
    have e2 : (N : ℤ) - 126 = z + 1 := by omega
    exact ⟨x, N, rfl, hx, by omega, by omega, by rw [e1]; exact lo, by rw [e2]; exact hi⟩

theorem two_eq : Ideal.ofBits .f32 1073741824#32 = ((2 : ℝ) : EReal) := by
  have := pw_coe 128 (by omega) (by omega)
  norm_num at this
  exact this

open Cert.Norm in
/-- The reference's exponent at a normal value. -/
theorem rexp_eq {C a : EReal} {x : ℝ} {z : ℤ} (h : a * C = (x : EReal)) (hx : 0 < x) (lo : (2 : ℝ) ^ z ≤ x) (hi : x < (2 : ℝ) ^ (z + 1)) :
    rexp C (Ideal.ofBits .f32 1073741824#32) (Ideal.ofBits .f32 1065353216#32) a = (((z + 1 : ℤ) : ℝ) : EReal) := by
  have h2 : Real.log 2 ≠ 0 := (Real.log_pos (by norm_num)).ne'
  have one : Ideal.ofBits .f32 1065353216#32 = ((1 : ℝ) : EReal) := IdealRules.sign_bit.ideal_onePat .f32
  unfold rexp
  rw [h, two_eq, one, Ideal.log_coe, if_neg (not_le.mpr hx), Ideal.log_coe, if_neg (by norm_num), Ideal.div_coe h2, ← EReal.coe_mul,
    Ideal.liftRound_coe, ← EReal.coe_add]
  have lp : 0 < Real.log 2 := Real.log_pos (by norm_num)
  have e : ⌊x.log * (1 / Real.log 2)⌋ = z := by
    rw [Int.floor_eq_iff, mul_one_div, le_div_iff₀ lp, div_lt_iff₀ lp]
    have l1 := Real.log_le_log (by positivity) lo
    have l2 := Real.log_lt_log hx hi
    rw [Real.log_zpow] at l1 l2
    push_cast at l1 l2
    exact ⟨l1, l2⟩
  rw [e]
  push_cast
  rfl

open Cert.Norm in
theorem pow_two (z : ℤ) : Ideal.pow (Ideal.ofBits .f32 1073741824#32) ((z : ℝ) : EReal) = (((2 : ℝ) ^ z : ℝ) : EReal) := by
  rw [two_eq, Ideal.pow_coe_coe]
  exact congrArg _ (Real.rpow_intCast 2 z)

open Cert.Norm in
/-- The kernel's scale, and its reciprocal, are the reference's. -/
theorem scale_eq {a : EReal} (h : Normal a) : scaleOf (a * Ideal.ofBits .f32 991054117#32) = qscale a
    ∧ invOf (a * Ideal.ofBits .f32 991054117#32) = qinv a := by
  have z : Ideal.ofBits .f32 0#32 = 0 := Ideal.ofBits_zero_f32
  have one : Ideal.ofBits .f32 1065353216#32 = 1 := IdealRules.sign_bit.ideal_onePat .f32
  unfold scaleOf invOf qscale qinv rscale rinv Scalar.select Ideal.cmp
  unfold Normal at h
  generalize Ideal.ofBits .f32 991054117#32 = C at h ⊢
  rcases h with h | ⟨h1, h2⟩
  · subst h
    rw [zero_mul, if_pos rfl, if_pos rfl, z, one]
    simp
  · obtain ⟨x, N, hx, hp, n1, n2, lo, hi⟩ := exists_field (t := a * C) h1 h2
    have a0 : a ≠ 0 := by
      rintro rfl
      rw [zero_mul] at hx
      have : (0 : ℝ) = x := by exact_mod_cast hx
      linarith
    have x0 : (x : EReal) ≠ 0 := by exact_mod_cast hp.ne'
    have s1 : IntOp.addi (wd N) 8388608#32 = wd (N + 1) := wd_add N 1
    have s2 : IntOp.subi 2122317824#32 (wd N) = wd (253 - N) := by
      have : ∀ n : Fin 253, IntOp.subi 2122317824#32 (wd n.val) = wd (253 - n.val) := by decide +kernel
      exact this ⟨N, by omega⟩
    have w1 : Ideal.ofBits .f32 (wd (N + 1)) = _ := pw_coe (N + 1) (by omega) (by omega)
    have w2 : Ideal.ofBits .f32 (wd (253 - N)) = _ := pw_coe (253 - N) (by omega) (by omega)
    obtain ⟨z', hz⟩ : ∃ z' : ℤ, (N : ℤ) - 127 = z' := ⟨_, rfl⟩
    have hz' : (N : ℤ) - 126 = z' + 1 := by omega
    have ng : -((((z' + 1 : ℤ) : ℝ) : EReal)) = (((-(z' + 1) : ℤ) : ℝ) : EReal) := by
      rw [← EReal.coe_neg]; push_cast; rfl
    have dn : ¬ (BitVec.ofBool (decide (a = 0)) = 1) := by simp [a0]
    rw [rexp_eq (z := z') hx hp (hz ▸ lo) (hz' ▸ hi), hx, if_neg x0, if_neg x0, expo_wd n1 n2 lo hi, s1, s2, w1, w2, z, ng, pow_two, pow_two]
    dsimp only
    rw [if_neg dn, if_neg dn]
    constructor
    · congr 2; push_cast; omega
    · congr 2; omega

end Cert.KernelIdeal.Val

end
-- ==== Proof.Reads.lean ====
/-
  READING BUFFERS AND LISTS OF STORES: the column blocks the loops load and store, and the masked stores of one row or one lane.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Pays
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-! ## The offsets -/

theorem off2_0 : ∀ k : Fin k0_t1_loop.trips, k0_off2 k 0#32 = ![0, 256 * k.val] := by decide +kernel
theorem off2_1 : ∀ k : Fin k0_t1_loop.trips, k0_off2 k 1#32 = ![0, 256 * k.val + 128] := by decide +kernel
theorem off3_0 : ∀ k : Fin k0_t1_loop.trips, k0_off3 k 0#32 = ![0, 0, 256 * k.val] := by decide +kernel
theorem off3_1 : ∀ k : Fin k0_t1_loop.trips, k0_off3 k 1#32 = ![0, 0, 256 * k.val + 128] := by decide +kernel
theorem off4_0 : ∀ k : Fin k0_t1_loop.trips, k0_off4 k 0#32 = ![0, 256 * k.val] := by decide +kernel
theorem off4_1 : ∀ k : Fin k0_t1_loop.trips, k0_off4 k 1#32 = ![0, 256 * k.val + 128] := by decide +kernel
theorem off5_0 : ∀ k : Fin k0_t2_loop.trips, k0_off5 k 0#32 = ![0, 256 * k.val] := by decide +kernel
theorem off5_1 : ∀ k : Fin k0_t2_loop.trips, k0_off5 k 1#32 = ![0, 256 * k.val + 128] := by decide +kernel
theorem off6_0 : ∀ k : Fin k0_t2_loop.trips, k0_off6 k 0#32 = ![0, 256 * k.val] := by decide +kernel
theorem off6_1 : ∀ k : Fin k0_t2_loop.trips, k0_off6 k 1#32 = ![0, 256 * k.val + 128] := by decide +kernel
theorem off7_0 : ∀ k : Fin k0_t2_loop.trips, k0_off7 k 0#32 = ![0, 0, 256 * k.val] := by decide +kernel
theorem off7_1 : ∀ k : Fin k0_t2_loop.trips, k0_off7 k 1#32 = ![0, 0, 256 * k.val + 128] := by decide +kernel
theorem trips1 : k0_t1_loop.trips = 28 := by decide +kernel
theorem trips2 : k0_t2_loop.trips = 28 := by decide +kernel

/-! ## A column block of a two-axis buffer -/

section Two
variable {κ : Kind} {sp : Space} {n m : Nat} {e : EltTy} (v : View sig κ sp ⟨2, ![n, m]⟩ e) (f : v.ty.Contents (Elt Ideal))

/-- A load of columns `o .. o + 127`, element by element. -/
theorem readAt_cols {off : Fin 2 → Nat} {o : Nat} (inb) (h : off = ![0, o]) (r : Fin n) (l : Fin 128) (c : Fin m) (hc : c.val = o + l.val) :
    v.readAt (Elt Ideal) (Rect.unit (s := ⟨2, ![n, m]⟩) off ![n, 128] inb).toLoadRect f (ix2 r l) = v.read (Elt Ideal) f (ix2 r c) := by
  subst h
  refine congrArg (v.read (Elt Ideal) f) (funext fun a => Fin.ext ?_)
  fin_cases a
  · show 0 + 1 * r.val = r.val; omega
  · show o + 1 * l.val = c.val; omega

/-- The newest piece, columns `o .. o + 127`, read at one of its columns. -/
theorem read_cols_hit {off : Fin 2 → Nat} {o : Nat} (inb) (h : off = ![0, o]) (w) (L) (r : Fin n) (l : Fin 128) (c : Fin m) (hc : c.val = o + l.val) :
    v.read (Elt Ideal) (v.writes (Elt Ideal) f ((⟨Rect.unit (s := ⟨2, ![n, m]⟩) off ![n, 128] inb, w⟩ : View.Piece (Elt Ideal) ⟨2, ![n, m]⟩ e) :: L)) (ix2 r c) = w (ix2 r l) :=
  View.read_writes_cons_unit_of_mem v f inb w L (ix2 r c) (ix2 r l) h fun a => by
    fin_cases a
    · show r.val = 0 + r.val; omega
    · show c.val = o + l.val; exact hc

/-- The newest piece read at a column it does not hold. -/
theorem read_cols_miss {off : Fin 2 → Nat} {o : Nat} (inb) (h : off = ![0, o]) (w) (L) (r : Fin n) (c : Fin m) (hc : c.val < o ∨ o + 128 ≤ c.val) :
    v.read (Elt Ideal) (v.writes (Elt Ideal) f ((⟨Rect.unit (s := ⟨2, ![n, m]⟩) off ![n, 128] inb, w⟩ : View.Piece (Elt Ideal) ⟨2, ![n, m]⟩ e) :: L)) (ix2 r c)
      = v.read (Elt Ideal) (v.writes (Elt Ideal) f L) (ix2 r c) :=
  View.read_writes_cons_unit_of_not_mem v f inb w L (ix2 r c) h 1 hc

/-- Two neighbouring column blocks stored: the columns before them and the two blocks hold the wanted values, the rest the old ones. -/
theorem read_two_cols {off0 off1 : Fin 2 → Nat} {k : Nat} (inb0) (inb1) (h0 : off0 = ![0, 256 * k]) (h1 : off1 = ![0, 256 * k + 128]) (w0) (w1)
    (D E : Fin n → Fin m → Elt Ideal e)
    (hf : ∀ r c, v.read (Elt Ideal) f (ix2 r c) = if c.val < 256 * k then D r c else E r c)
    (hw0 : ∀ (r : Fin n) (l : Fin 128) (c : Fin m), c.val = 256 * k + l.val → w0 (ix2 r l) = D r c)
    (hw1 : ∀ (r : Fin n) (l : Fin 128) (c : Fin m), c.val = 256 * k + 128 + l.val → w1 (ix2 r l) = D r c) (r : Fin n) (c : Fin m) :
    v.read (Elt Ideal) (v.writes (Elt Ideal) f [(⟨Rect.unit (s := ⟨2, ![n, m]⟩) off1 ![n, 128] inb1, w1⟩ : View.Piece (Elt Ideal) ⟨2, ![n, m]⟩ e),
      ⟨Rect.unit (s := ⟨2, ![n, m]⟩) off0 ![n, 128] inb0, w0⟩]) (ix2 r c) = if c.val < 256 * (k + 1) then D r c else E r c := by
  by_cases hb : 256 * k + 128 ≤ c.val ∧ c.val < 256 * k + 256
  · rw [read_cols_hit v f inb1 h1 w1 _ r ⟨c.val - (256 * k + 128), by omega⟩ c (by show c.val = 256 * k + 128 + (c.val - (256 * k + 128)); omega),
      hw1 _ _ c (by show c.val = 256 * k + 128 + (c.val - (256 * k + 128)); omega), if_pos (by omega)]
  · rw [read_cols_miss v f inb1 h1 w1 _ r c (by omega)]
    by_cases ha : 256 * k ≤ c.val ∧ c.val < 256 * k + 128
    · rw [read_cols_hit v f inb0 h0 w0 _ r ⟨c.val - 256 * k, by omega⟩ c (by show c.val = 256 * k + (c.val - 256 * k); omega),
        hw0 _ _ c (by show c.val = 256 * k + (c.val - 256 * k); omega), if_pos (by omega)]
    · rw [read_cols_miss v f inb0 h0 w0 _ r c (by omega), View.writes_nil, hf]
      by_cases hc : c.val < 256 * k
      · rw [if_pos hc, if_pos (by omega)]
      · rw [if_neg hc, if_neg (by omega)]

/-- The same, of the columns stored so far only. -/
theorem read_two_cols_lt {off0 off1 : Fin 2 → Nat} {k : Nat} (inb0) (inb1) (h0 : off0 = ![0, 256 * k]) (h1 : off1 = ![0, 256 * k + 128]) (w0) (w1)
    (D : Fin n → Fin m → Elt Ideal e)
    (hf : ∀ r c, c.val < 256 * k → v.read (Elt Ideal) f (ix2 r c) = D r c)
    (hw0 : ∀ (r : Fin n) (l : Fin 128) (c : Fin m), c.val = 256 * k + l.val → w0 (ix2 r l) = D r c)
    (hw1 : ∀ (r : Fin n) (l : Fin 128) (c : Fin m), c.val = 256 * k + 128 + l.val → w1 (ix2 r l) = D r c) (r : Fin n) (c : Fin m)
    (hc : c.val < 256 * (k + 1)) :
    v.read (Elt Ideal) (v.writes (Elt Ideal) f [(⟨Rect.unit (s := ⟨2, ![n, m]⟩) off1 ![n, 128] inb1, w1⟩ : View.Piece (Elt Ideal) ⟨2, ![n, m]⟩ e),
      ⟨Rect.unit (s := ⟨2, ![n, m]⟩) off0 ![n, 128] inb0, w0⟩]) (ix2 r c) = D r c := by
  rw [read_two_cols v f inb0 inb1 h0 h1 w0 w1 D (fun r c => v.read (Elt Ideal) f (ix2 r c))
    (fun r c => by
      by_cases h : c.val < 256 * k
      · rw [if_pos h, hf r c h]
      · rw [if_neg h]) hw0 hw1 r c, if_pos hc]

/-- A load of the whole buffer. -/
theorem readAt_all {off : Fin 2 → Nat} (inb) :
    v.readAt (Elt Ideal) (Rect.unit (s := ⟨2, ![n, m]⟩) off ![n, m] inb).toLoadRect f = v.read (Elt Ideal) f :=
  View.readAt_full v f inb

/-- The newest store covers the whole buffer. -/
theorem read_all {off : Fin 2 → Nat} (inb) (w) (L) :
    v.read (Elt Ideal) (v.writes (Elt Ideal) f ((⟨Rect.unit (s := ⟨2, ![n, m]⟩) off ![n, m] inb, w⟩ : View.Piece (Elt Ideal) ⟨2, ![n, m]⟩ e) :: L)) = w :=
  View.read_writes_full v f inb w L

theorem readCov_all {off off' : Fin 2 → Nat} (inb) (inb') (w) (L) :
    v.readCov ((⟨Rect.unit (s := ⟨2, ![n, m]⟩) off ![n, m] inb, w⟩ : View.Piece (Elt Ideal) ⟨2, ![n, m]⟩ e) :: L)
      (Rect.unit (s := ⟨2, ![n, m]⟩) off' ![n, m] inb').toLoadRect = w :=
  View.readCov_full v inb' inb w L

/-- A masked store over the whole buffer. -/
theorem read_all_masked {off : Fin 2 → Nat} (inb) (w) (M : Finset _) (r : Fin n) (c : Fin m) :
    v.read (Elt Ideal) ((v.slice (Rect.unit (s := ⟨2, ![n, m]⟩) off ![n, m] inb)).write (Elt Ideal) f w M) (ix2 r c)
      = if ix2 r c ∈ M then w (ix2 r c) else v.read (Elt Ideal) f (ix2 r c) := by
  have he : (Rect.unit (s := ⟨2, ![n, m]⟩) off ![n, m] inb).emb (ix2 r c) = ix2 r c := funext fun a => Fin.ext (by
    have := inb a
    fin_cases a
    · show off 0 + 1 * r.val = r.val
      have : off 0 + n ≤ n := this
      omega
    · show off 1 + 1 * c.val = c.val
      have : off 1 + m ≤ m := this
      omega)
  by_cases hM : ix2 r c ∈ M
  · rw [if_pos hM]
    conv_lhs => rw [← he]
    exact View.read_slice_write_emb _ f w hM
  · rw [if_neg hM]
    refine View.read_slice_write_of_not_mem _ f w M fun hm => hM ?_
    obtain ⟨y, hy, hye⟩ := Finset.mem_map.mp hm
    rwa [← (Rect.unit (s := ⟨2, ![n, m]⟩) off ![n, m] inb).emb.injective (hye.trans he.symm)]

end Two

/-! ## A row of a column block of a buffer of eight rows -/

section Three
variable {κ : Kind} {sp : Space} {m : Nat} {e : EltTy} (v : View sig κ sp ⟨3, ![1, 8, m]⟩ e) (f : v.ty.Contents (Elt Ideal))

theorem read_row_hit {off : Fin 3 → Nat} {o : Nat} (inb) (h : off = ![0, 0, o]) (w) (M : Finset _) (s : Fin 8) (l : Fin 128) (c : Fin m)
    (hc : c.val = o + l.val) :
    v.read (Elt Ideal) ((v.slice (Rect.unit (s := ⟨3, ![1, 8, m]⟩) off ![1, 8, 128] inb)).write (Elt Ideal) f w M) (ix3 0 s c)
      = if ix3 0 s l ∈ M then w (ix3 0 s l) else v.read (Elt Ideal) f (ix3 0 s c) := by
  subst h
  have he : (Rect.unit (s := ⟨3, ![1, 8, m]⟩) ![0, 0, o] ![1, 8, 128] inb).emb (ix3 0 s l) = ix3 0 s c := funext fun a => Fin.ext (by
    fin_cases a
    · show 0 + 1 * 0 = 0; omega
    · show 0 + 1 * s.val = s.val; omega
    · show o + 1 * l.val = c.val; omega)
  by_cases hM : ix3 0 s l ∈ M
  · rw [if_pos hM, ← he]
    exact View.read_slice_write_emb _ f w hM
  · rw [if_neg hM]
    refine View.read_slice_write_of_not_mem _ f w M fun hm => hM ?_
    obtain ⟨y, hy, hye⟩ := Finset.mem_map.mp hm
    rwa [← (Rect.unit (s := ⟨3, ![1, 8, m]⟩) ![0, 0, o] ![1, 8, 128] inb).emb.injective (hye.trans he.symm)]

theorem read_row_miss {off : Fin 3 → Nat} {o : Nat} (inb) (h : off = ![0, 0, o]) (w) (M : Finset _) (s : Fin 8) (c : Fin m)
    (hc : c.val < o ∨ o + 128 ≤ c.val) :
    v.read (Elt Ideal) ((v.slice (Rect.unit (s := ⟨3, ![1, 8, m]⟩) off ![1, 8, 128] inb)).write (Elt Ideal) f w M) (ix3 0 s c)
      = v.read (Elt Ideal) f (ix3 0 s c) := by
  subst h
  refine View.read_slice_write_of_not_mem _ f w M fun hm => ?_
  obtain ⟨y, hy, hye⟩ := Finset.mem_map.mp hm
  have h2 : o + 1 * (y 2).val = c.val := congrArg (fun x : (⟨3, ![1, 8, m]⟩ : Shape).Idx => (x 2).val) hye
  have h3 : (y 2).val < 128 := (y 2).isLt
  omega

/-- One row of two neighbouring column blocks stored. -/
theorem read_two_rows {off0 off1 : Fin 3 → Nat} {k : Nat} (inb0) (inb1) (h0 : off0 = ![0, 0, 256 * k]) (h1 : off1 = ![0, 0, 256 * k + 128])
    (w0) (w1) (M0 M1 : Finset _) (q : Nat) (D : Fin m → Elt Ideal e) (E : Fin 8 → Fin m → Elt Ideal e)
    (hM0 : ∀ (s : Fin 8) (l : Fin 128), ix3 0 s l ∈ M0 ↔ s.val = q) (hM1 : ∀ (s : Fin 8) (l : Fin 128), ix3 0 s l ∈ M1 ↔ s.val = q)
    (hf : ∀ s c, v.read (Elt Ideal) f (ix3 0 s c) = if s.val = q ∧ c.val < 256 * k then D c else E s c)
    (hw0 : ∀ (s : Fin 8) (l : Fin 128) (c : Fin m), c.val = 256 * k + l.val → w0 (ix3 0 s l) = D c)
    (hw1 : ∀ (s : Fin 8) (l : Fin 128) (c : Fin m), c.val = 256 * k + 128 + l.val → w1 (ix3 0 s l) = D c) (s : Fin 8) (c : Fin m) :
    v.read (Elt Ideal) ((v.slice (Rect.unit (s := ⟨3, ![1, 8, m]⟩) off1 ![1, 8, 128] inb1)).write (Elt Ideal)
      ((v.slice (Rect.unit (s := ⟨3, ![1, 8, m]⟩) off0 ![1, 8, 128] inb0)).write (Elt Ideal) f w0 M0) w1 M1) (ix3 0 s c)
      = if s.val = q ∧ c.val < 256 * (k + 1) then D c else E s c := by
  by_cases hb : 256 * k + 128 ≤ c.val ∧ c.val < 256 * k + 256
  · rw [read_row_hit v _ inb1 h1 w1 M1 s ⟨c.val - (256 * k + 128), by omega⟩ c (by show c.val = 256 * k + 128 + (c.val - (256 * k + 128)); omega),
      read_row_miss v f inb0 h0 w0 M0 s c (by omega), hf, hw1 s _ c (by show c.val = 256 * k + 128 + (c.val - (256 * k + 128)); omega)]
    by_cases hs : s.val = q
    · rw [if_pos ((hM1 s _).mpr hs), if_pos ⟨hs, by omega⟩]
    · rw [if_neg (fun h => hs ((hM1 s _).mp h)), if_neg (fun h => hs h.1), if_neg (fun h => hs h.1)]
  · rw [read_row_miss v _ inb1 h1 w1 M1 s c (by omega)]
    by_cases ha : 256 * k ≤ c.val ∧ c.val < 256 * k + 128
    · rw [read_row_hit v f inb0 h0 w0 M0 s ⟨c.val - 256 * k, by omega⟩ c (by show c.val = 256 * k + (c.val - 256 * k); omega), hf,
        hw0 s _ c (by show c.val = 256 * k + (c.val - 256 * k); omega)]
      by_cases hs : s.val = q
      · rw [if_pos ((hM0 s _).mpr hs), if_pos ⟨hs, by omega⟩]
      · rw [if_neg (fun h => hs ((hM0 s _).mp h)), if_neg (fun h => hs h.1), if_neg (fun h => hs h.1)]
    · rw [read_row_miss v f inb0 h0 w0 M0 s c (by omega), hf]
      by_cases hc : s.val = q ∧ c.val < 256 * k
      · rw [if_pos hc, if_pos ⟨hc.1, by omega⟩]
      · rw [if_neg hc, if_neg (fun h => hc ⟨h.1, by omega⟩)]

end Three

end Cert.KernelIdeal.Val

end
-- ==== Proof.Loop1.lean ====
/-
  THE FIRST LOOP, ONE TRIP: what a block of 128 rows computes, named on its rows and columns, and the first loop's buffers from trip
  to trip: the columns done so far hold the sums of the three gradients, their column sums of products and the running row sums.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Pays
public import proofs.«01_k».proof.Proof.Reads
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- One block of rows: its five tiles, the weights, and each row's reciprocal deviation. -/
structure Blk where
  x : S128x7168.Idx → EReal
  dr : S128x7168.Idx → EReal
  q : S128x7168.Idx → EReal
  k : S128x7168.Idx → EReal
  w : S128x7168.Idx → EReal
  g : Fin 7168 → EReal
  R : Fin 128 → EReal

namespace Blk
variable (b : Blk)

/-- The gradient: the three branches' sum. -/
def dn (r : Fin 128) (c : Fin 7168) : EReal := (b.q (ix2 r c) + b.k (ix2 r c)) + b.w (ix2 r c)
/-- The gradient times the normalised input. -/
def p (r : Fin 128) (c : Fin 7168) : EReal := b.dn r c * (b.x (ix2 r c) * b.R r)
/-- The block's column sum of the products. -/
def ps (c : Fin 7168) : EReal := ∑ r : Fin 128, b.p r c
/-- Column `l` of lane group `j`. -/
def col (j : Fin 56) (l : Fin 128) : Fin 7168 := ⟨128 * j.val + l.val, by omega⟩
/-- One lane group's term of the running row sum; zero past the last group. -/
def term (r l : Fin 128) (j : ℕ) : EReal := if h : j < 56 then b.p r (col ⟨j, h⟩ l) * b.g (col ⟨j, h⟩ l) else 0
/-- The running row sum after `n` lane groups. -/
def acc (n : ℕ) (r l : Fin 128) : EReal := ∑ j ∈ Finset.range n, b.term r l j

theorem acc_two (k : ℕ) (r l : Fin 128) (c0 c1 : Fin 7168) (h0 : c0.val = 256 * k + l.val) (h1 : c1.val = 256 * k + 128 + l.val) :
    b.acc (2 * (k + 1)) r l = (b.acc (2 * k) r l + b.p r c0 * b.g c0) + b.p r c1 * b.g c1 := by
  have hk : 2 * k < 56 ∧ 2 * k + 1 < 56 := by have := c1.isLt; omega
  unfold acc
  rw [show 2 * (k + 1) = 2 * k + 1 + 1 by omega, Finset.sum_range_succ, Finset.sum_range_succ]
  unfold term
  rw [dif_pos hk.1, dif_pos hk.2, show col ⟨2 * k, hk.1⟩ l = c0 from Fin.ext (by show 128 * (2 * k) + l.val = c0.val; omega),
    show col ⟨2 * k + 1, hk.2⟩ l = c1 from Fin.ext (by show 128 * (2 * k + 1) + l.val = c1.val; omega)]

end Blk

/-- A memref's elements on core `c`, held whole at contents of which `P` holds. -/
abbrev hd (c : Dev nD) {S : Shape} {e : EltTy} (M : Memref sig .tc .vmem S e) (P : (S.Idx → Elt Ideal e) → Prop) : sProp 𝕄 :=
  iprop(∃ f : Buf (Elt Ideal) (M.view.loc (c : Thread nD τ)), ⌜P (M.view.read (Elt Ideal) f)⌝ ∗ M.view.loc (c : Thread nD τ) ↦[M.view.set]{fullShare} f)

section
variable (c : Dev nD) (i : grid0.Coords)
    (arg1 : Memref sig .tc .vmem S2x128 .f32) (harg1 : arg1.IsWhole)
    (arg2 : Memref sig .tc .vmem S7168 .f32) (harg2 : arg2.IsWhole)
    (arg3 : Memref sig .tc .vmem S128x7168 .bf16) (harg3 : arg3.IsWhole)
    (arg4 : Memref sig .tc .vmem S128x7168 .bf16) (harg4 : arg4.IsWhole)
    (arg5 : Memref sig .tc .vmem S128x7168 .bf16) (harg5 : arg5.IsWhole)
    (arg6 : Memref sig .tc .vmem S128x7168 .bf16) (harg6 : arg6.IsWhole)
    (arg7 : Memref sig .tc .vmem S128x7168 .bf16) (harg7 : arg7.IsWhole)
    (arg8 : Memref sig .tc .vmem S128x7168 .bf16) (harg8 : arg8.IsWhole)
    (arg9 : Memref sig .tc .vmem S7168 .f32) (harg9 : arg9.IsWhole)
    (arg10 : Memref sig .tc .vmem S1x8x7168 .f32) (harg10 : arg10.IsWhole)
    (arg11 : Memref sig .tc .vmem S128x7168 .fp8e4m3) (harg11 : arg11.IsWhole)
    (arg12 : Memref sig .tc .vmem S128x56 .f32) (harg12 : arg12.IsWhole)
    (arg13 : Memref sig .tc .vmem S128x7168 .fp8e4m3) (harg13 : arg13.IsWhole)
    (arg14 : Memref sig .tc .vmem S1x8x7168 .f32) (harg14 : arg14.IsWhole)
    (arg15 : Memref sig .tc .vmem S1x7168 .f32) (harg15 : arg15.IsWhole)
    (arg16 : Memref sig .tc .vmem S1x7168 .f32) (harg16 : arg16.IsWhole)
    (arg17 : Memref sig .tc .vmem S128x7168 .f32) (harg17 : arg17.IsWhole)
    (arg18 : Memref sig .tc .vmem S128x128 .f32) (harg18 : arg18.IsWhole)
    (arg19 : Memref sig .tc .vmem S128x128 .f32) (harg19 : arg19.IsWhole)
    (arg20 : Memref sig .tc .vmem S128x128 .f32) (harg20 : arg20.IsWhole)

/-- What the first loop holds before trip `k`. -/
abbrev inv1 (b : Blk) (s : ℕ) (P0 : Fin 8 → Fin 7168 → EReal) (D0 : Fin 7168 → EReal) (k : ℕ) : sProp 𝕄 :=
  iprop(hd c arg3 (fun d => d = b.x) ∗ hd c arg5 (fun d => d = b.q) ∗ hd c arg6 (fun d => d = b.k) ∗ hd c arg7 (fun d => d = b.w) ∗
    hd c arg10 (fun d => ∀ (a : Fin 8) (c : Fin 7168), d (ix3 0 a c) = if a.val = s ∧ c.val < 256 * k then b.ps c else P0 a c) ∗
    hd c arg15 (fun d => ∀ c : Fin 7168, d (ix2 0 c) = b.g c) ∗
    hd c arg16 (fun d => ∀ (z : Fin 1) (c : Fin 7168), d (ix2 z c) = if c.val < 256 * k then D0 c + b.ps c else D0 c) ∗
    hd c arg17 (fun d => ∀ (r : Fin 128) (c : Fin 7168), c.val < 256 * k → d (ix2 r c) = b.dn r c) ∗
    hd c arg18 (fun d => ∀ r l : Fin 128, d (ix2 r l) = b.R r) ∗
    hd c arg19 (fun d => ∀ r l : Fin 128, d (ix2 r l) = b.acc (2 * k) r l))

/-- One trip of the first loop. -/
theorem trip1 (b : Blk) (s : ℕ) (P0 : Fin 8 → Fin 7168 → EReal) (D0 : Fin 7168 → EReal) (v3 : IVec S8x128 1)
    (hv3 : ∀ (a : Fin 8) (l : Fin 128), v3 (ix2 a l) = 1#1 ↔ a.val = s) (k : Fin k0_t1_loop.trips) :
    inv1 c arg3 arg5 arg6 arg7 arg10 arg15 arg16 arg17 arg18 arg19 b s P0 D0 k.val
      ⊢ wp frame (wpE (defs₀ (F := Ideal)) Variants.none (c : Thread nD τ) none) Set.univ
          (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 0#32 1#32 k ()) (fun _ => inv1 c arg3 arg5 arg6 arg7 arg10 arg15 arg16 arg17 arg18 arg19 b s P0 D0 (k.val + 1)) := by
  unfold k0_t1_body
  iintro ⟨⟨%f3, %h3, H3⟩, ⟨%f5, %h5, H5⟩, ⟨%f6, %h6, H6⟩, ⟨%f7, %h7, H7⟩, ⟨%f10, %h10, H10⟩, ⟨%f15, %h15, H15⟩, ⟨%f16, %h16, H16⟩, ⟨%f17, %h17, H17⟩, ⟨%f18, %h18, H18⟩, ⟨%f19, %h19, H19⟩⟩
  have hk : k.val < 28 := k.isLt
  -- the block read off the buffers, at a column of each of the trip's two lane groups
  have dn0 : ∀ (r l : Fin 128) (c' : Fin 7168), c'.val = 256 * k.val + l.val → (k0_pay9 (F := Ideal)
      (arg5.view.readAt (Elt Ideal) (Rect.unit (s := S128x7168) (k0_off2 k 0#32) S128x128.size (k0_off2_inb k 0)).toLoadRect f5)
      (arg6.view.readAt (Elt Ideal) (Rect.unit (s := S128x7168) (k0_off2 k 0#32) S128x128.size (k0_off2_inb k 0)).toLoadRect f6)
      (arg7.view.readAt (Elt Ideal) (Rect.unit (s := S128x7168) (k0_off2 k 0#32) S128x128.size (k0_off2_inb k 0)).toLoadRect f7)) (ix2 r l) = b.dn r c' := fun r l c' hc => by
    rw [pay9_at]
    unfold Blk.dn
    rw [← h5, ← h6, ← h7]
    rw [readAt_cols arg5.view f5 _ (off2_0 k) r l c' hc, readAt_cols arg6.view f6 _ (off2_0 k) r l c' hc, readAt_cols arg7.view f7 _ (off2_0 k) r l c' hc]
  have dn1 : ∀ (r l : Fin 128) (c' : Fin 7168), c'.val = 256 * k.val + 128 + l.val → (k0_pay9 (F := Ideal)
      (arg5.view.readAt (Elt Ideal) (Rect.unit (s := S128x7168) (k0_off2 k 1#32) S128x128.size (k0_off2_inb k 1)).toLoadRect f5)
      (arg6.view.readAt (Elt Ideal) (Rect.unit (s := S128x7168) (k0_off2 k 1#32) S128x128.size (k0_off2_inb k 1)).toLoadRect f6)
      (arg7.view.readAt (Elt Ideal) (Rect.unit (s := S128x7168) (k0_off2 k 1#32) S128x128.size (k0_off2_inb k 1)).toLoadRect f7)) (ix2 r l) = b.dn r c' := fun r l c' hc => by
    rw [pay9_at]
    unfold Blk.dn
    rw [← h5, ← h6, ← h7]
    rw [readAt_cols arg5.view f5 _ (off2_1 k) r l c' hc, readAt_cols arg6.view f6 _ (off2_1 k) r l c' hc, readAt_cols arg7.view f7 _ (off2_1 k) r l c' hc]
  have x0 : ∀ (r l : Fin 128) (c' : Fin 7168), c'.val = 256 * k.val + l.val →
      arg3.view.readAt (Elt Ideal) (Rect.unit (s := S128x7168) (k0_off2 k 0#32) S128x128.size (k0_off2_inb k 0)).toLoadRect f3 (ix2 r l) = b.x (ix2 r c') := fun r l c' hc => by
    rw [← h3]; exact readAt_cols arg3.view f3 _ (off2_0 k) r l c' hc
  have x1 : ∀ (r l : Fin 128) (c' : Fin 7168), c'.val = 256 * k.val + 128 + l.val →
      arg3.view.readAt (Elt Ideal) (Rect.unit (s := S128x7168) (k0_off2 k 1#32) S128x128.size (k0_off2_inb k 1)).toLoadRect f3 (ix2 r l) = b.x (ix2 r c') := fun r l c' hc => by
    rw [← h3]; exact readAt_cols arg3.view f3 _ (off2_1 k) r l c' hc
  have r0 : ∀ (r l : Fin 128), arg18.view.readAt (Elt Ideal) (Rect.unit (s := S128x128) ![0, 0] S128x128.size inb_S128x128_S128x128_0_0).toLoadRect f18 (ix2 r l) = b.R r := fun r l => by
    rw [← h18 r l]; exact congrFun (readAt_all arg18.view f18 _) _
  have p0 : ∀ (r l : Fin 128) (c' : Fin 7168), c'.val = 256 * k.val + l.val → (k0_pay11 (F := Ideal)
      (arg5.view.readAt (Elt Ideal) (Rect.unit (s := S128x7168) (k0_off2 k 0#32) S128x128.size (k0_off2_inb k 0)).toLoadRect f5)
      (arg6.view.readAt (Elt Ideal) (Rect.unit (s := S128x7168) (k0_off2 k 0#32) S128x128.size (k0_off2_inb k 0)).toLoadRect f6)
      (arg7.view.readAt (Elt Ideal) (Rect.unit (s := S128x7168) (k0_off2 k 0#32) S128x128.size (k0_off2_inb k 0)).toLoadRect f7)
      (arg3.view.readAt (Elt Ideal) (Rect.unit (s := S128x7168) (k0_off2 k 0#32) S128x128.size (k0_off2_inb k 0)).toLoadRect f3)
      (arg18.view.readAt (Elt Ideal) (Rect.unit (s := S128x128) ![0, 0] S128x128.size inb_S128x128_S128x128_0_0).toLoadRect f18)) (ix2 r l) = b.p r c' := fun r l c' hc => by
    rw [pay11_at, x0 r l c' hc, r0, ← pay9_at, dn0 r l c' hc]; rfl
  have p1 : ∀ (r l : Fin 128) (c' : Fin 7168), c'.val = 256 * k.val + 128 + l.val → (k0_pay1 (F := Ideal) (k0_pay17
      (arg5.view.readAt (Elt Ideal) (Rect.unit (s := S128x7168) (k0_off2 k 1#32) S128x128.size (k0_off2_inb k 1)).toLoadRect f5)
      (arg6.view.readAt (Elt Ideal) (Rect.unit (s := S128x7168) (k0_off2 k 1#32) S128x128.size (k0_off2_inb k 1)).toLoadRect f6)
      (arg7.view.readAt (Elt Ideal) (Rect.unit (s := S128x7168) (k0_off2 k 1#32) S128x128.size (k0_off2_inb k 1)).toLoadRect f7))
      (k0_pay19 (arg3.view.readAt (Elt Ideal) (Rect.unit (s := S128x7168) (k0_off2 k 1#32) S128x128.size (k0_off2_inb k 1)).toLoadRect f3))
      (arg18.view.readAt (Elt Ideal) (Rect.unit (s := S128x128) ![0, 0] S128x128.size inb_S128x128_S128x128_0_0).toLoadRect f18)) (ix2 r l) = b.p r c' := fun r l c' hc => by
    rw [pay1_at, pay19_at, x1 r l c' hc, r0, pay17_at, ← pay9_at, dn1 r l c' hc]; rfl
  sl_exec
  sl_step
  isplitl [H3]
  · iexists _; isplitr; swap; (iexact H3); ipureintro; exact h3
  isplitl [H5]
  · iexists _; isplitr; swap; (iexact H5); ipureintro; exact h5
  isplitl [H6]
  · iexists _; isplitr; swap; (iexact H6); ipureintro; exact h6
  isplitl [H7]
  · iexists _; isplitr; swap; (iexact H7); ipureintro; exact h7
  isplitl [H10]
  · iexists _; isplitr; swap; (iexact H10); ipureintro
    refine read_two_rows arg10.view f10 _ _ (off3_0 k) (off3_1 k) _ _ _ _ s b.ps P0 ?_ ?_ h10 ?_ ?_
    · intro a l
      exact (Finset.mem_filter.trans (and_iff_right (Finset.mem_univ _))).trans ((iff_of_eq (congrArg (· = 1#1) (pay14_at v3 0 a l))).trans (hv3 a l))
    · intro a l
      exact (Finset.mem_filter.trans (and_iff_right (Finset.mem_univ _))).trans ((iff_of_eq (congrArg (· = 1#1) (pay4_at v3 0 a l))).trans (hv3 a l))
    · intro a l c' hc
      refine (pay13_at _ _ _ _ _ 0 a l).trans (Finset.sum_congr rfl fun r _ => ?_)
      exact (pay11_at _ _ _ _ _ (ix2 r l)).symm.trans (p0 r l c' hc)
    · intro a l c' hc
      refine (pay3_at _ _ _ 0 a l).trans (Finset.sum_congr rfl fun r _ => ?_)
      exact (pay1_at _ _ _ (ix2 r l)).symm.trans (p1 r l c' hc)
  isplitl [H15]
  · iexists _; isplitr; swap; (iexact H15); ipureintro; exact h15
  isplitl [H16]
  · iexists _; isplitr; swap; (iexact H16); ipureintro
    refine read_two_cols arg16.view f16 _ _ (off4_0 k) (off4_1 k) _ _ (fun _ c => D0 c + b.ps c) (fun _ c => D0 c) h16 ?_ ?_
    · intro z l c' hc
      refine (pay15_at _ _ (ix2 z l)).trans ?_
      refine congrArg₂ (· + ·) ((readAt_cols arg16.view f16 _ (off4_0 k) z l c' hc).trans ((h16 z c').trans (if_neg (by omega)))) ?_
      refine (pay12_at _ _ _ _ _ z l).trans (Finset.sum_congr rfl fun r _ => ?_)
      exact (pay11_at _ _ _ _ _ (ix2 r l)).symm.trans (p0 r l c' hc)
    · intro z l c' hc
      refine (pay5_at _ _ _ _ z l).trans ?_
      refine congrArg₂ (· + ·) ((readAt_cols arg16.view f16 _ (off4_1 k) z l c' hc).trans ((h16 z c').trans (if_neg (by omega)))) ?_
      refine Finset.sum_congr rfl fun r _ => ?_
      exact (pay1_at _ _ _ (ix2 r l)).symm.trans (p1 r l c' hc)
  isplitl [H17]
  · iexists _; isplitr; swap; (iexact H17); ipureintro
    refine read_two_cols_lt arg17.view f17 _ _ (off2_0 k) (off2_1 k) _ _ b.dn h17 ?_ ?_
    · intro r l c' hc
      exact (pay10_at _ _ _ (ix2 r l)).trans ((pay9_at _ _ _ (ix2 r l)).symm.trans (dn0 r l c' hc))
    · intro r l c' hc
      exact (pay18_at _ _ _ (ix2 r l)).trans ((pay9_at _ _ _ (ix2 r l)).symm.trans (dn1 r l c' hc))
  isplitl [H18]
  · iexists _; isplitr; swap; (iexact H18); ipureintro; exact h18
  iexists _; isplitr; swap; (iexact H19); ipureintro
  intro r l
  have hc0 : 256 * k.val + l.val < 7168 := by omega
  have hc1 : 256 * k.val + 128 + l.val < 7168 := by omega
  refine (congrFun (read_all arg19.view f19 _ _ _) (ix2 r l)).trans ?_
  rw [b.acc_two k.val r l ⟨_, hc0⟩ ⟨_, hc1⟩ rfl rfl]
  refine (pay6_at _ _ _ _ _ r l).trans ?_
  refine congrArg₂ (· + ·) ?_ (congrArg₂ (· * ·) ((pay1_at _ _ _ (ix2 r l)).symm.trans (p1 r l _ rfl)) ((readAt_cols arg15.view f15 _ (off4_1 k) 0 l ⟨_, hc1⟩ rfl).trans (h15 _)))
  refine (congrFun (readCov_all arg19.view _ _ _ _) (ix2 r l)).trans ?_
  refine (pay16_at _ _ _ r l).trans ?_
  exact congrArg₂ (· + ·) ((congrFun (readAt_all arg19.view f19 _) (ix2 r l)).trans (h19 r l))
    (congrArg₂ (· * ·) (p0 r l _ rfl) ((readAt_cols arg15.view f15 _ (off4_0 k) 0 l ⟨_, hc0⟩ rfl).trans (h15 _)))

end

end Cert.KernelIdeal.Val

end
-- ==== Proof.Loop2.lean ====
/-
  THE SECOND LOOP, ONE TRIP: the gradient of the input, the largest magnitude of each row's and each column's group, and the buffers
  from trip to trip: the columns done so far hold the gradient and its two quantisations, the lanes and rows their scales.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Loop1
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

namespace Blk
variable (b : Blk)

/-- A row's mean of the weighted products, times its reciprocal deviation. -/
def cr (r : Fin 128) : EReal := ((∑ l : Fin 128, b.acc 56 r l) * ((1 / 7168 : ℝ) : EReal)) * b.R r
/-- The gradient of the input, the residual's gradient added. -/
def val (r : Fin 128) (c : Fin 7168) : EReal := b.R r * (b.dn r c * b.g c - b.x (ix2 r c) * b.cr r) + b.dr (ix2 r c)
/-- The lane group of a column. -/
def grp (c : Fin 7168) : Fin 56 := ⟨c.val / 128, by omega⟩
/-- The largest magnitude of a row's lane group, and of a column, over 448. -/
def trow (r : Fin 128) (j : Fin 56) : EReal := tmax fun l => b.val r (col j l)
def tcol (c : Fin 7168) : EReal := tmax fun r => b.val r c

end Blk

theorem mem_on {s : Shape} (m : IVec s 1) (j : s.Idx) : j ∈ IVec.on m ↔ m j = 1#1 :=
  Finset.mem_filter.trans (and_iff_right (Finset.mem_univ _))

/-- The lane group's number as the body computes it. -/
theorem lane0 : ∀ k : Fin k0_t2_loop.trips, Scalar.addi (Scalar.muli (Scalar.addi 0#32 (Scalar.muli (Scf.iv 0#32 1#32 k) 1#32)) 2#32) 0#32 = BitVec.ofNat 32 (2 * k.val) := by decide +kernel
theorem lane1 : ∀ k : Fin k0_t2_loop.trips, Scalar.addi (Scalar.muli (Scalar.addi 0#32 (Scalar.muli (Scf.iv 0#32 1#32 k) 1#32)) 2#32) 1#32 = BitVec.ofNat 32 (2 * k.val + 1) := by decide +kernel

theorem lane_word (l : Fin 56) (n : ℕ) (hn : n < 56) : IntOp.cmpi .eq (BitVec.ofNat 32 l.val) (BitVec.ofNat 32 n) = 1#1 ↔ l.val = n := by
  have hl := l.isLt
  rw [WordCmp.cmpi_eq_ofNat_eq_one_iff (by omega) (by omega)]

section
variable (c : Dev nD) (i : grid0.Coords)
    (arg1 : Memref sig .tc .vmem S2x128 .f32) (harg1 : arg1.IsWhole)
    (arg2 : Memref sig .tc .vmem S7168 .f32) (harg2 : arg2.IsWhole)
    (arg3 : Memref sig .tc .vmem S128x7168 .bf16) (harg3 : arg3.IsWhole)
    (arg4 : Memref sig .tc .vmem S128x7168 .bf16) (harg4 : arg4.IsWhole)
    (arg5 : Memref sig .tc .vmem S128x7168 .bf16) (harg5 : arg5.IsWhole)
    (arg6 : Memref sig .tc .vmem S128x7168 .bf16) (harg6 : arg6.IsWhole)
    (arg7 : Memref sig .tc .vmem S128x7168 .bf16) (harg7 : arg7.IsWhole)
    (arg8 : Memref sig .tc .vmem S128x7168 .bf16) (harg8 : arg8.IsWhole)
    (arg9 : Memref sig .tc .vmem S7168 .f32) (harg9 : arg9.IsWhole)
    (arg10 : Memref sig .tc .vmem S1x8x7168 .f32) (harg10 : arg10.IsWhole)
    (arg11 : Memref sig .tc .vmem S128x7168 .fp8e4m3) (harg11 : arg11.IsWhole)
    (arg12 : Memref sig .tc .vmem S128x56 .f32) (harg12 : arg12.IsWhole)
    (arg13 : Memref sig .tc .vmem S128x7168 .fp8e4m3) (harg13 : arg13.IsWhole)
    (arg14 : Memref sig .tc .vmem S1x8x7168 .f32) (harg14 : arg14.IsWhole)
    (arg15 : Memref sig .tc .vmem S1x7168 .f32) (harg15 : arg15.IsWhole)
    (arg16 : Memref sig .tc .vmem S1x7168 .f32) (harg16 : arg16.IsWhole)
    (arg17 : Memref sig .tc .vmem S128x7168 .f32) (harg17 : arg17.IsWhole)
    (arg18 : Memref sig .tc .vmem S128x128 .f32) (harg18 : arg18.IsWhole)
    (arg19 : Memref sig .tc .vmem S128x128 .f32) (harg19 : arg19.IsWhole)
    (arg20 : Memref sig .tc .vmem S128x128 .f32) (harg20 : arg20.IsWhole)

/-- What the second loop holds before trip `k`. -/
abbrev inv2 (b : Blk) (s : ℕ) (P0 : Fin 8 → Fin 7168 → EReal) (k : ℕ) : sProp 𝕄 :=
  iprop(hd c arg3 (fun d => d = b.x) ∗ hd c arg4 (fun d => d = b.dr) ∗
    hd c arg8 (fun d => ∀ (r : Fin 128) (c : Fin 7168), c.val < 256 * k → d (ix2 r c) = b.val r c) ∗
    hd c arg11 (fun d => ∀ (r : Fin 128) (c : Fin 7168), c.val < 256 * k → d (ix2 r c) = clip (b.val r c * invOf (b.trow r (Blk.grp c)))) ∗
    hd c arg12 (fun d => ∀ (r : Fin 128) (l : Fin 56), l.val < 2 * k → d (ix2 r l) = scaleOf (b.trow r l)) ∗
    hd c arg13 (fun d => ∀ (r : Fin 128) (c : Fin 7168), c.val < 256 * k → d (ix2 r c) = clip (b.val r c * invOf (b.tcol c))) ∗
    hd c arg14 (fun d => ∀ (a : Fin 8) (c : Fin 7168), d (ix3 0 a c) = if a.val = s ∧ c.val < 256 * k then scaleOf (b.tcol c) else P0 a c) ∗
    hd c arg15 (fun d => ∀ c : Fin 7168, d (ix2 0 c) = b.g c) ∗
    hd c arg17 (fun d => ∀ (r : Fin 128) (c : Fin 7168), d (ix2 r c) = b.dn r c) ∗
    hd c arg18 (fun d => ∀ r l : Fin 128, d (ix2 r l) = b.R r) ∗
    hd c arg20 (fun d => ∀ r l : Fin 128, d (ix2 r l) = b.cr r))

set_option maxHeartbeats 2000000 in
/-- One trip of the second loop. -/
theorem trip2 (b : Blk) (s : ℕ) (P0 : Fin 8 → Fin 7168 → EReal) (v3 : IVec S8x128 1) (v49 : IVec S128x56 32)
    (hv3 : ∀ (a : Fin 8) (l : Fin 128), v3 (ix2 a l) = 1#1 ↔ a.val = s)
    (hv49 : ∀ (r : Fin 128) (l : Fin 56), v49 (ix2 r l) = BitVec.ofNat 32 l.val) (k : Fin k0_t2_loop.trips) :
    inv2 c arg3 arg4 arg8 arg11 arg12 arg13 arg14 arg15 arg17 arg18 arg20 b s P0 k.val
      ⊢ wp frame (wpE (defs₀ (F := Ideal)) Variants.none (c : Thread nD τ) none) Set.univ
          (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v49 k ()) (fun _ => inv2 c arg3 arg4 arg8 arg11 arg12 arg13 arg14 arg15 arg17 arg18 arg20 b s P0 (k.val + 1)) := by
  unfold k0_t2_body
  iintro ⟨⟨%f3, %h3, H3⟩, ⟨%f4, %h4, H4⟩, ⟨%f8, %h8, H8⟩, ⟨%f11, %h11, H11⟩, ⟨%f12, %h12, H12⟩, ⟨%f13, %h13, H13⟩, ⟨%f14, %h14, H14⟩, ⟨%f15, %h15, H15⟩, ⟨%f17, %h17, H17⟩, ⟨%f18, %h18, H18⟩, ⟨%f20, %h20, H20⟩⟩
  have hk : k.val < 28 := k.isLt
  have V0 : ∀ (r l : Fin 128) (c' : Fin 7168), c'.val = 256 * k.val + l.val → k0_pay20 (F := Ideal) (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4) (ix2 r l) = b.val r c' := fun r l c' hc => by
    rw [pay20_at, readAt_cols arg17.view f17 _ (off5_0 k) r l c' hc, readAt_cols arg3.view f3 _ (off5_0 k) r l c' hc,
      readAt_cols arg4.view f4 _ (off5_0 k) r l c' hc, readAt_cols arg15.view f15 _ (off6_0 k) 0 l c' hc, h17, h3, h4, h15]
    rw [congrFun (readAt_all arg18.view f18 _) (ix2 r l), congrFun (readAt_all arg20.view f20 _) (ix2 r l), h18, h20]
    rfl
  have T0 : ∀ (r : Fin 128), k0_pay23 (F := Ideal) (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4) (ix2 r 0) = b.trow r ⟨2 * k.val + 0, by omega⟩ := fun r => by
    rw [pay23_at]
    exact congrArg tmax (funext fun l => V0 r l _ (by show 128 * (2 * k.val + 0) + l.val = _; omega))
  have C0 : ∀ (l : Fin 128) (c' : Fin 7168), c'.val = 256 * k.val + l.val → k0_pay29 (F := Ideal) (k0_pay22 (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4)) (ix2 0 l) = b.tcol c' := fun l c' hc => by
    rw [pay29_at]
    exact congrArg tmax (funext fun r => V0 r l c' hc)
  have V1 : ∀ (r l : Fin 128) (c' : Fin 7168), c'.val = 256 * k.val + 128 + l.val → k0_pay39 (F := Ideal) (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4) (ix2 r l) = b.val r c' := fun r l c' hc => by
    rw [pay39_at, readAt_cols arg17.view f17 _ (off5_1 k) r l c' hc, readAt_cols arg3.view f3 _ (off5_1 k) r l c' hc,
      readAt_cols arg4.view f4 _ (off5_1 k) r l c' hc, readAt_cols arg15.view f15 _ (off6_1 k) 0 l c' hc, h17, h3, h4, h15]
    rw [congrFun (readAt_all arg18.view f18 _) (ix2 r l), congrFun (readAt_all arg20.view f20 _) (ix2 r l), h18, h20]
    rfl
  have T1 : ∀ (r : Fin 128), k0_pay42 (F := Ideal) (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4) (ix2 r 0) = b.trow r ⟨2 * k.val + 1, by omega⟩ := fun r => by
    rw [pay42_at]
    exact congrArg tmax (funext fun l => V1 r l _ (by show 128 * (2 * k.val + 1) + l.val = _; omega))
  have C1 : ∀ (l : Fin 128) (c' : Fin 7168), c'.val = 256 * k.val + 128 + l.val → k0_pay48 (F := Ideal) (k0_pay41 (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4)) (ix2 0 l) = b.tcol c' := fun l c' hc => by
    rw [pay48_at]
    exact congrArg tmax (funext fun r => V1 r l c' hc)
  have S0 : ∀ (r : Fin 128), k0_pay27 (F := Ideal) (k0_pay23 (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4)) (k0_pay24 (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4)) (ix2 r 0) = scaleOf (b.trow r ⟨2 * k.val + 0, by omega⟩) := fun r => by
    rw [pay27_at _ _ _ (pay24_at _ _ _ _ _ _ r 0), T0]
  have S1 : ∀ (r : Fin 128), k0_pay46 (F := Ideal) (k0_pay42 (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4)) (k0_pay43 (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4)) (ix2 r 0) = scaleOf (b.trow r ⟨2 * k.val + 1, by omega⟩) := fun r => by
    rw [pay46_at _ _ _ (pay43_at _ _ _ _ _ _ r 0), T1]
  have I0 : ∀ (r : Fin 128), k0_pay28 (F := Ideal) (k0_pay23 (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4)) (k0_pay24 (arg18.view.readAt (Elt Ideal) (Rect.unit (s := S128x128) ![0, 0] S128x128.size inb_S128x128_S128x128_0_0).toLoadRect f18)
        (arg17.view.readAt (Elt Ideal) (Rect.unit (s := S128x7168) (k0_off5 k 0#32) S128x128.size (k0_off5_inb k 0)).toLoadRect f17)
        (arg15.view.readAt (Elt Ideal) (Rect.unit (s := S1x7168) (k0_off6 k 0#32) S1x128.size (k0_off6_inb k 0)).toLoadRect f15)
        (arg3.view.readAt (Elt Ideal) (Rect.unit (s := S128x7168) (k0_off5 k 0#32) S128x128.size (k0_off5_inb k 0)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 0#32) S128x128.size (k0_off5_inb k 0)).toLoadRect f4)) (ix2 r 0) = invOf (b.trow r ⟨2 * k.val + 0, by omega⟩) := fun r => by
    rw [pay28_at _ _ _ (pay24_at _ _ _ _ _ _ r 0), T0]
  have I1 : ∀ (r : Fin 128), k0_pay47 (F := Ideal) (k0_pay42 (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4)) (k0_pay43 (arg18.view.readAt (Elt Ideal) (Rect.unit (s := S128x128) ![0, 0] S128x128.size inb_S128x128_S128x128_0_0).toLoadRect f18)
        (arg17.view.readAt (Elt Ideal) (Rect.unit (s := S128x7168) (k0_off5 k 1#32) S128x128.size (k0_off5_inb k 1)).toLoadRect f17)
        (arg15.view.readAt (Elt Ideal) (Rect.unit (s := S1x7168) (k0_off6 k 1#32) S1x128.size (k0_off6_inb k 1)).toLoadRect f15)
        (arg3.view.readAt (Elt Ideal) (Rect.unit (s := S128x7168) (k0_off5 k 1#32) S128x128.size (k0_off5_inb k 1)).toLoadRect f3)
        (arg20.view.readAt (Elt Ideal) (Rect.unit (s := S128x128) ![0, 0] S128x128.size inb_S128x128_S128x128_0_0).toLoadRect f20)
        (arg4.view.readAt (Elt Ideal) (Rect.unit (s := S128x7168) (k0_off5 k 1#32) S128x128.size (k0_off5_inb k 1)).toLoadRect f4)) (ix2 r 0) = invOf (b.trow r ⟨2 * k.val + 1, by omega⟩) := fun r => by
    rw [pay47_at _ _ _ (pay43_at _ _ _ _ _ _ r 0), T1]
  have hg0 : ∀ (l : Fin 128) (c' : Fin 7168), c'.val = 256 * k.val + l.val → (⟨2 * k.val + 0, by omega⟩ : Fin 56) = Blk.grp c' := fun l c' hc => Fin.ext (by
    show 2 * k.val + 0 = c'.val / 128; omega)
  have hg1 : ∀ (l : Fin 128) (c' : Fin 7168), c'.val = 256 * k.val + 128 + l.val → (⟨2 * k.val + 1, by omega⟩ : Fin 56) = Blk.grp c' := fun l c' hc => Fin.ext (by
    show 2 * k.val + 1 = c'.val / 128; omega)
  sl_exec
  sl_step
  isplitl [H3]
  · iexists _; isplitr; swap; (iexact H3); ipureintro
    exact h3
  isplitl [H4]
  · iexists _; isplitr; swap; (iexact H4); ipureintro
    exact h4
  isplitl [H8]
  · iexists _; isplitr; swap; (iexact H8); ipureintro
    refine read_two_cols_lt arg8.view f8 _ _ (off5_0 k) (off5_1 k) _ _ b.val h8 ?_ ?_
    · intro r l c' hc
      exact (pay21_at _ _ _ _ _ _ r l).trans (V0 r l c' hc)
    · intro r l c' hc
      exact (pay40_at _ _ _ _ _ _ r l).trans (V1 r l c' hc)
  isplitl [H11]
  · iexists _; isplitr; swap; (iexact H11); ipureintro
    refine read_two_cols_lt arg11.view f11 _ _ (off5_0 k) (off5_1 k) _ _ (fun r c => clip (b.val r c * invOf (b.trow r (Blk.grp c)))) h11 ?_ ?_
    · intro r l c' hc
      refine (pay33_at _ _ r l).trans (congrArg clip (congrArg₂ (· * ·) (V0 r l c' hc) ((I0 r).trans ?_)))
      rw [hg0 l c' hc]
    · intro r l c' hc
      refine (pay53_at _ _ r l).trans (congrArg clip (congrArg₂ (· * ·) (V1 r l c' hc) ((I1 r).trans ?_)))
      rw [hg1 l c' hc]
  isplitl [H12]
  · iexists _; isplitr; swap; (iexact H12); ipureintro
    intro r l hl
    refine (read_all_masked arg12.view _ _ _ _ r l).trans ?_
    have hM1 : (ix2 r l : S128x56.Idx) ∈ IVec.on (k0_pay58 v49 (Scalar.addi (Scalar.muli (Scalar.addi 0#32 (Scalar.muli (Scf.iv 0#32 1#32 k) 1#32)) 2#32) 1#32)) ↔ l.val = 2 * k.val + 1 := by
      rw [mem_on, pay58_at, hv49, lane1, lane_word l _ (by omega)]
    have hM0 : (ix2 r l : S128x56.Idx) ∈ IVec.on (k0_pay38 v49 (Scalar.addi (Scalar.muli (Scalar.addi 0#32 (Scalar.muli (Scf.iv 0#32 1#32 k) 1#32)) 2#32) 0#32)) ↔ l.val = 2 * k.val := by
      rw [mem_on, pay38_at, hv49, lane0, lane_word l _ (by omega)]
    by_cases h1 : l.val = 2 * k.val + 1
    · refine (if_pos (hM1.mpr h1)).trans ((pay57_at _ r l).trans ((S1 r).trans ?_))
      rw [show (⟨2 * k.val + 1, by omega⟩ : Fin 56) = l from Fin.ext h1.symm]
    · refine (if_neg (fun h => h1 (hM1.mp h))).trans ?_
      refine (read_all_masked arg12.view f12 _ _ _ r l).trans ?_
      by_cases h0 : l.val = 2 * k.val
      · refine (if_pos (hM0.mpr h0)).trans ((pay37_at _ r l).trans ((S0 r).trans ?_))
        rw [show (⟨2 * k.val + 0, by omega⟩ : Fin 56) = l from Fin.ext h0.symm]
      · exact (if_neg (fun h => h0 (hM0.mp h))).trans (h12 r l (by omega))
  isplitl [H13]
  · iexists _; isplitr; swap; (iexact H13); ipureintro
    refine read_two_cols_lt arg13.view f13 _ _ (off5_0 k) (off5_1 k) _ _ (fun r c => clip (b.val r c * invOf (b.tcol c))) h13 ?_ ?_
    · intro r l c' hc
      exact (pay34_at _ _ r l).trans (congrArg clip (congrArg₂ (· * ·) (V0 r l c' hc) (congrArg invOf (C0 l c' hc))))
    · intro r l c' hc
      exact (pay54_at _ _ r l).trans (congrArg clip (congrArg₂ (· * ·) (V1 r l c' hc) (congrArg invOf (C1 l c' hc))))
  isplitl [H14]
  · iexists _; isplitr; swap; (iexact H14); ipureintro
    refine read_two_rows arg14.view f14 _ _ (off7_0 k) (off7_1 k) _ _ _ _ s (fun c => scaleOf (b.tcol c)) P0 ?_ ?_ h14 ?_ ?_
    · intro a l
      exact (mem_on _ _).trans ((iff_of_eq (congrArg (· = 1#1) (pay36_at v3 0 a l))).trans (hv3 a l))
    · intro a l
      exact (mem_on _ _).trans ((iff_of_eq (congrArg (· = 1#1) (pay56_at v3 0 a l))).trans (hv3 a l))
    · intro a l c' hc
      exact (pay35_at _ 0 a l).trans (congrArg scaleOf (C0 l c' hc))
    · intro a l c' hc
      exact (pay55_at _ 0 a l).trans (congrArg scaleOf (C1 l c' hc))
  isplitl [H15]
  · iexists _; isplitr; swap; (iexact H15); ipureintro
    exact h15
  isplitl [H17]
  · iexists _; isplitr; swap; (iexact H17); ipureintro
    exact h17
  isplitl [H18]
  · iexists _; isplitr; swap; (iexact H18); ipureintro
    exact h18
  iexists _; isplitr; swap; (iexact H20); ipureintro
  exact h20

end

end Cert.KernelIdeal.Val

end
-- ==== Proof.Body.lean ====
/-
  THE BODY AT A GRID POINT: from a block of rows in the input windows to the block's results in the output windows, the row of the
  partial sums and of the column scales that the point owns, and the running sum of the partial sums.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Loop2
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem cond1 : ∀ i : grid0.Coords, Scalar.cmpi .ne ((Scalar.extui (Scalar.cmpi .eq (BitVec.ofNat 32 (i 0).val) 0#32) : BitVec 32)) 0#32 = 1#1 ↔ (i 0).val = 0 := by decide +kernel
theorem cond2 : ∀ i : grid0.Coords, k0_cond2 i = 1#1 ↔ (i 0).val = 63 := by decide +kernel
theorem off1 : ∀ i : grid0.Coords, k0_off1 i = ![(i 0).val / 32, 0] := by decide +kernel
theorem rem8 : ∀ i : grid0.Coords, Scalar.remsi (BitVec.ofNat 32 (i 0).val) 8#32 = BitVec.ofNat 32 ((i 0).val % 8) := by decide +kernel
theorem pt_lt : ∀ i : grid0.Coords, (i 0).val < 64 := by decide +kernel

/-- The mask of the row a point owns. -/
theorem row_mask (i : grid0.Coords) (a : Fin 8) (l : Fin 128) : k0_pay59 i (ix2 a l) = 1#1 ↔ a.val = (i 0).val % 8 := by
  have h : k0_pay59 i (ix2 a l) = IntOp.cmpi .eq (BitVec.ofNat 32 a.val) (Scalar.remsi (BitVec.ofNat 32 (i 0).val) 8#32) := by
    pointwise [k0_pay59]
  rw [h, rem8, WordCmp.cmpi_eq_ofNat_eq_one_iff (by omega) (by omega)]

theorem lanes (r : Fin 128) (l : Fin 56) : iota .tc S128x56 32 [1] iota_S128x56_d1_w32 (ix2 r l) = BitVec.ofNat 32 l.val := by
  pointwise []

/-- A load of row `o` of a two-axis buffer. -/
theorem readAt_row {κ : Kind} {sp : Space} {n m : Nat} {e : EltTy} (v : View sig κ sp ⟨2, ![n, m]⟩ e) (f : v.ty.Contents (Elt Ideal))
    {off : Fin 2 → Nat} {o : Nat} (inb) (h : off = ![o, 0]) (z : Fin 1) (l : Fin m) (a : Fin n) (ha : a.val = o) :
    v.readAt (Elt Ideal) (Rect.unit (s := ⟨2, ![n, m]⟩) off ![1, m] inb).toLoadRect f (ix2 z l) = v.read (Elt Ideal) f (ix2 a l) := by
  subst h
  refine congrArg (v.read (Elt Ideal) f) (funext fun q => Fin.ext ?_)
  fin_cases q
  · show o + 1 * z.val = a.val; omega
  · show 0 + 1 * l.val = l.val; omega

section
variable (c : Dev nD) (i : grid0.Coords)
    (arg1 : Memref sig .tc .vmem S2x128 .f32) (harg1 : arg1.IsWhole)
    (arg2 : Memref sig .tc .vmem S7168 .f32) (harg2 : arg2.IsWhole)
    (arg3 : Memref sig .tc .vmem S128x7168 .bf16) (harg3 : arg3.IsWhole)
    (arg4 : Memref sig .tc .vmem S128x7168 .bf16) (harg4 : arg4.IsWhole)
    (arg5 : Memref sig .tc .vmem S128x7168 .bf16) (harg5 : arg5.IsWhole)
    (arg6 : Memref sig .tc .vmem S128x7168 .bf16) (harg6 : arg6.IsWhole)
    (arg7 : Memref sig .tc .vmem S128x7168 .bf16) (harg7 : arg7.IsWhole)
    (arg8 : Memref sig .tc .vmem S128x7168 .bf16) (harg8 : arg8.IsWhole)
    (arg9 : Memref sig .tc .vmem S7168 .f32) (harg9 : arg9.IsWhole)
    (arg10 : Memref sig .tc .vmem S1x8x7168 .f32) (harg10 : arg10.IsWhole)
    (arg11 : Memref sig .tc .vmem S128x7168 .fp8e4m3) (harg11 : arg11.IsWhole)
    (arg12 : Memref sig .tc .vmem S128x56 .f32) (harg12 : arg12.IsWhole)
    (arg13 : Memref sig .tc .vmem S128x7168 .fp8e4m3) (harg13 : arg13.IsWhole)
    (arg14 : Memref sig .tc .vmem S1x8x7168 .f32) (harg14 : arg14.IsWhole)
    (arg15 : Memref sig .tc .vmem S1x7168 .f32) (harg15 : arg15.IsWhole)
    (arg16 : Memref sig .tc .vmem S1x7168 .f32) (harg16 : arg16.IsWhole)
    (arg17 : Memref sig .tc .vmem S128x7168 .f32) (harg17 : arg17.IsWhole)
    (arg18 : Memref sig .tc .vmem S128x128 .f32) (harg18 : arg18.IsWhole)
    (arg19 : Memref sig .tc .vmem S128x128 .f32) (harg19 : arg19.IsWhole)
    (arg20 : Memref sig .tc .vmem S128x128 .f32) (harg20 : arg20.IsWhole)

/-- What the body is handed. -/
abbrev bpre (b : Blk) (d1 : S2x128.Idx → EReal) (d2 : S7168.Idx → EReal) (P10 P14 : Fin 8 → Fin 7168 → EReal) (D0 : Fin 7168 → EReal) : sProp 𝕄 :=
  iprop(
      hd c arg1 (fun d => d = d1) ∗
      hd c arg2 (fun d => d = d2) ∗
      hd c arg3 (fun d => d = b.x) ∗
      hd c arg4 (fun d => d = b.dr) ∗
      hd c arg5 (fun d => d = b.q) ∗
      hd c arg6 (fun d => d = b.k) ∗
      hd c arg7 (fun d => d = b.w) ∗
      hd c arg8 (fun _ => True) ∗
      hd c arg9 (fun _ => True) ∗
      hd c arg10 (fun d => ∀ (a : Fin 8) (c : Fin 7168), d (ix3 0 a c) = P10 a c) ∗
      hd c arg11 (fun _ => True) ∗
      hd c arg12 (fun _ => True) ∗
      hd c arg13 (fun _ => True) ∗
      hd c arg14 (fun d => ∀ (a : Fin 8) (c : Fin 7168), d (ix3 0 a c) = P14 a c) ∗
      hd c arg15 (fun d => (i 0).val ≠ 0 → ∀ c : Fin 7168, d (ix2 0 c) = b.g c) ∗
      hd c arg16 (fun d => (i 0).val ≠ 0 → ∀ (z : Fin 1) (c : Fin 7168), d (ix2 z c) = D0 c) ∗
      hd c arg17 (fun _ => True) ∗
      hd c arg18 (fun _ => True) ∗
      hd c arg19 (fun _ => True) ∗
      hd c arg20 (fun _ => True))

/-- What it hands back. -/
abbrev bpost (b : Blk) (d1 : S2x128.Idx → EReal) (d2 : S7168.Idx → EReal) (P10 P14 : Fin 8 → Fin 7168 → EReal) (D0 : Fin 7168 → EReal) : sProp 𝕄 :=
  iprop(
      hd c arg1 (fun d => d = d1) ∗
      hd c arg2 (fun d => d = d2) ∗
      hd c arg3 (fun d => d = b.x) ∗
      hd c arg4 (fun d => d = b.dr) ∗
      hd c arg5 (fun d => d = b.q) ∗
      hd c arg6 (fun d => d = b.k) ∗
      hd c arg7 (fun d => d = b.w) ∗
      hd c arg8 (fun d => ∀ (r : Fin 128) (c : Fin 7168), d (ix2 r c) = b.val r c) ∗
      hd c arg9 (fun d => (i 0).val = 63 → ∀ c : Fin 7168, d (ix1 c) = D0 c + b.ps c) ∗
      hd c arg10 (fun d => ∀ (a : Fin 8) (c : Fin 7168), d (ix3 0 a c) = if a.val = (i 0).val % 8 then b.ps c else P10 a c) ∗
      hd c arg11 (fun d => ∀ (r : Fin 128) (c : Fin 7168), d (ix2 r c) = clip (b.val r c * invOf (b.trow r (Blk.grp c)))) ∗
      hd c arg12 (fun d => ∀ (r : Fin 128) (l : Fin 56), d (ix2 r l) = scaleOf (b.trow r l)) ∗
      hd c arg13 (fun d => ∀ (r : Fin 128) (c : Fin 7168), d (ix2 r c) = clip (b.val r c * invOf (b.tcol c))) ∗
      hd c arg14 (fun d => ∀ (a : Fin 8) (c : Fin 7168), d (ix3 0 a c) = if a.val = (i 0).val % 8 then scaleOf (b.tcol c) else P14 a c) ∗
      hd c arg15 (fun d => ∀ c : Fin 7168, d (ix2 0 c) = b.g c) ∗
      hd c arg16 (fun d => ∀ (z : Fin 1) (c : Fin 7168), d (ix2 z c) = D0 c + b.ps c) ∗
      hd c arg17 (fun _ => True) ∗
      hd c arg18 (fun _ => True) ∗
      hd c arg19 (fun _ => True) ∗
      hd c arg20 (fun _ => True))

set_option maxHeartbeats 4000000 in
theorem body (b : Blk) (d1 : S2x128.Idx → EReal) (d2 : S7168.Idx → EReal) (P10 P14 : Fin 8 → Fin 7168 → EReal) (D0 : Fin 7168 → EReal)
    (hR : ∀ (a : Fin 2) (r : Fin 128), a.val = (i 0).val / 32 → d1 (ix2 a r) = b.R r) (hg : ∀ c, d2 (ix1 c) = b.g c) (hD : (i 0).val = 0 → ∀ c, D0 c = 0) :
    bpre c i arg1 arg2 arg3 arg4 arg5 arg6 arg7 arg8 arg9 arg10 arg11 arg12 arg13 arg14 arg15 arg16 arg17 arg18 arg19 arg20 b d1 d2 P10 P14 D0
      ⊢ wp frame (wpE (defs₀ (F := Ideal)) Variants.none (c : Thread nD τ) none) Set.univ
          (cc0_rmsnorm_bwd_quant (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (fun _ => bpost c i arg1 arg2 arg3 arg4 arg5 arg6 arg7 arg8 arg9 arg10 arg11 arg12 arg13 arg14 arg15 arg16 arg17 arg18 arg19 arg20 b d1 d2 P10 P14 D0) := by
  simp only [cc0_rmsnorm_bwd_quant_eq_skeleton]; unfold cc0_rmsnorm_bwd_quant_skel
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩⟩
  have hi := pt_lt i
  sl_exec
  sl_for (fun n (_ : PUnit) => inv1 c arg3 arg5 arg6 arg7 arg10 arg15 arg16 arg17 arg18 arg19 b ((i 0).val % 8) P10 D0 n) $$ [H3 H5 H6 H7 H10 H15 H16 H17 H18 H19]
  case region =>
    intro k _
    exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 b ((i 0).val % 8) P10 D0 _ (row_mask i) k
  · isplitl [H3]
    · iexists _; isplitr; swap; (iexact H3); ipureintro
      exact h3
    isplitl [H5]
    · iexists _; isplitr; swap; (iexact H5); ipureintro
      exact h5
    isplitl [H6]
    · iexists _; isplitr; swap; (iexact H6); ipureintro
      exact h6
    isplitl [H7]
    · iexists _; isplitr; swap; (iexact H7); ipureintro
      exact h7
    isplitl [H10]
    · iexists _; isplitr; swap; (iexact H10); ipureintro
      intro a c'
      rw [if_neg (by omega)]; exact h10 a c'
    isplitl [H15]
    · iexists _; isplitr; swap; (iexact H15); ipureintro
      intro c'
      split
      · refine (congrFun (read_all arg15.view f15 _ _ _) (ix2 0 c')).trans ((pay60_at _ 0 c').trans ?_)
        rw [← hg c', ← h2]
        exact congrFun (View.readAt_full arg2.view f2 _) (ix1 c')
      · rename_i hc
        exact h15 (fun h => hc ((cond1 i).mpr h)) c'
    isplitl [H16]
    · iexists _; isplitr; swap; (iexact H16); ipureintro
      intro z c'
      rw [if_neg (by omega)]
      split
      · rename_i hc
        refine (congrFun (read_all arg16.view f16 _ _ _) (ix2 z c')).trans ((pay61_at (ix2 z c')).trans ?_)
        exact (hD ((cond1 i).mp hc) c').symm
      · rename_i hc
        exact h16 (fun h => hc ((cond1 i).mpr h)) z c'
    isplitl [H17]
    · iexists _; isplitr; swap; (iexact H17); ipureintro
      intro r c' hc
      omega
    isplitl [H18]
    · iexists _; isplitr; swap; (iexact H18); ipureintro
      intro r l
      refine (congrFun (read_all arg18.view _ _ _ _) (ix2 r l)).trans ((pay62_at _ r l).trans ?_)
      have hq : (i 0).val / 32 < 2 := by omega
      rw [← hR ⟨_, hq⟩ r rfl, ← h1]
      exact readAt_row arg1.view f1 _ (off1 i) 0 r ⟨_, hq⟩ rfl
    iexists _; isplitr; swap; (iexact H19); ipureintro
    intro r l
    refine (congrFun (read_all arg19.view _ _ _ _) (ix2 r l)).trans ((pay63_at (ix2 r l)).trans ?_)
    exact (Finset.sum_range_zero (b.term r l)).symm
  iintro %acc ⟨⟨%f3, %h3, H3⟩, ⟨%f5, %h5, H5⟩, ⟨%f6, %h6, H6⟩, ⟨%f7, %h7, H7⟩, ⟨%f10, %h10, H10⟩, ⟨%f15, %h15, H15⟩, ⟨%f16, %h16, H16⟩, ⟨%f17, %h17, H17⟩, ⟨%f18, %h18, H18⟩, ⟨%f19, %h19, H19⟩⟩
  have e1 : Scf.trips k0_t1_loop.lb k0_t1_loop.ub k0_t1_loop.st = 28 := trips1
  rw [e1] at h10 h16 h17 h19
  have g10 : ∀ (a : Fin 8) (c' : Fin 7168), arg10.view.read (Elt Ideal) f10 (ix3 0 a c') = if a.val = (i 0).val % 8 then b.ps c' else P10 a c' := fun a c' => by
    rw [h10 a c']
    by_cases ha : a.val = (i 0).val % 8
    · rw [if_pos ha, if_pos ⟨ha, by omega⟩]
    · rw [if_neg ha, if_neg (fun h => ha h.1)]
  have g16 : ∀ (z : Fin 1) (c' : Fin 7168), arg16.view.read (Elt Ideal) f16 (ix2 z c') = D0 c' + b.ps c' := fun z c' => (h16 z c').trans (if_pos (by omega))
  have g17 : ∀ (r : Fin 128) (c' : Fin 7168), arg17.view.read (Elt Ideal) f17 (ix2 r c') = b.dn r c' := fun r c' => h17 r c' (by omega)
  have g19 : ∀ r l : Fin 128, arg19.view.read (Elt Ideal) f19 (ix2 r l) = b.acc 56 r l := h19
  sl_exec
  sl_for (fun n (_ : PUnit) => inv2 c arg3 arg4 arg8 arg11 arg12 arg13 arg14 arg15 arg17 arg18 arg20 b ((i 0).val % 8) P14 n) $$ [H3 H4 H8 H11 H12 H13 H14 H15 H17 H18 H20]
  case region =>
    intro k _
    exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 b ((i 0).val % 8) P14 _ _ (row_mask i) lanes k
  · isplitl [H3]
    · iexists _; isplitr; swap; (iexact H3); ipureintro
      exact h3
    isplitl [H4]
    · iexists _; isplitr; swap; (iexact H4); ipureintro
      exact h4
    isplitl [H8]
    · iexists _; isplitr; swap; (iexact H8); ipureintro
      intro r c' hc
      omega
    isplitl [H11]
    · iexists _; isplitr; swap; (iexact H11); ipureintro
      intro r c' hc
      omega
    isplitl [H12]
    · iexists _; isplitr; swap; (iexact H12); ipureintro
      intro r c' hc
      omega
    isplitl [H13]
    · iexists _; isplitr; swap; (iexact H13); ipureintro
      intro r c' hc
      omega
    isplitl [H14]
    · iexists _; isplitr; swap; (iexact H14); ipureintro
      intro a c'
      rw [if_neg (by omega)]; exact h14 a c'
    isplitl [H15]
    · iexists _; isplitr; swap; (iexact H15); ipureintro
      exact h15
    isplitl [H17]
    · iexists _; isplitr; swap; (iexact H17); ipureintro
      exact g17
    isplitl [H18]
    · iexists _; isplitr; swap; (iexact H18); ipureintro
      exact h18
    iexists _; isplitr; swap; (iexact H20); ipureintro
    intro r l
    refine (congrFun (read_all arg20.view _ _ _ _) (ix2 r l)).trans ((pay7_at _ _ r l).trans ?_)
    unfold Blk.cr
    rw [congrFun (readAt_all arg18.view f18 _) (ix2 r l), h18 r l]
    refine congrArg (fun z => z * _ * _) (Finset.sum_congr rfl fun k _ => ?_)
    exact (congrFun (readAt_all arg19.view f19 _) (ix2 r k)).trans (g19 r k)
  iintro %acc2 ⟨⟨%f3, %h3, H3⟩, ⟨%f4, %h4, H4⟩, ⟨%f8, %h8, H8⟩, ⟨%f11, %h11, H11⟩, ⟨%f12, %h12, H12⟩, ⟨%f13, %h13, H13⟩, ⟨%f14, %h14, H14⟩, ⟨%f15, %h15, H15⟩, ⟨%f17, %h17, H17⟩, ⟨%f18, %h18, H18⟩, ⟨%f20, %h20, H20⟩⟩
  have e2 : Scf.trips k0_t2_loop.lb k0_t2_loop.ub k0_t2_loop.st = 28 := trips2
  rw [e2] at h8 h11 h12 h13 h14
  sl_exec
  sl_step
  isplitl [H1]
  · iexists _; isplitr; swap; (iexact H1); ipureintro
    exact h1
  isplitl [H2]
  · iexists _; isplitr; swap; (iexact H2); ipureintro
    exact h2
  isplitl [H3]
  · iexists _; isplitr; swap; (iexact H3); ipureintro
    exact h3
  isplitl [H4]
  · iexists _; isplitr; swap; (iexact H4); ipureintro
    exact h4
  isplitl [H5]
  · iexists _; isplitr; swap; (iexact H5); ipureintro
    exact h5
  isplitl [H6]
  · iexists _; isplitr; swap; (iexact H6); ipureintro
    exact h6
  isplitl [H7]
  · iexists _; isplitr; swap; (iexact H7); ipureintro
    exact h7
  isplitl [H8]
  · iexists _; isplitr; swap; (iexact H8); ipureintro
    exact fun r c' => h8 r c' (by omega)
  isplitl [H9]
  · iexists _; isplitr; swap; (iexact H9); ipureintro
    intro hL c'
    rw [dif_pos ((cond2 i).mpr hL)]
    refine (congrFun (View.read_writes_full arg9.view _ _ _ _) (ix1 c')).trans ((pay8_at _ c').trans ?_)
    exact (congrFun (readAt_all arg16.view f16 _) (ix2 0 c')).trans (g16 0 c')
  isplitl [H10]
  · iexists _; isplitr; swap; (iexact H10); ipureintro
    exact g10
  isplitl [H11]
  · iexists _; isplitr; swap; (iexact H11); ipureintro
    exact fun r c' => h11 r c' (by omega)
  isplitl [H12]
  · iexists _; isplitr; swap; (iexact H12); ipureintro
    exact fun r l => h12 r l (by omega)
  isplitl [H13]
  · iexists _; isplitr; swap; (iexact H13); ipureintro
    exact fun r c' => h13 r c' (by omega)
  isplitl [H14]
  · iexists _; isplitr; swap; (iexact H14); ipureintro
    intro a c'
    rw [h14 a c']
    by_cases ha : a.val = (i 0).val % 8
    · rw [if_pos ha, if_pos ⟨ha, by omega⟩]
    · rw [if_neg ha, if_neg (fun h => ha h.1)]
  isplitl [H15]
  · iexists _; isplitr; swap; (iexact H15); ipureintro
    exact h15
  isplitl [H16]
  · iexists _; isplitr; swap; (iexact H16); ipureintro
    exact g16
  isplitl [H17]
  · iexists _; isplitr; swap; (iexact H17); ipureintro
    trivial
  isplitl [H18]
  · iexists _; isplitr; swap; (iexact H18); ipureintro
    trivial
  isplitl [H19]
  · iexists _; isplitr; swap; (iexact H19); ipureintro
    trivial
  iexists _; isplitr; swap; (iexact H20); ipureintro
  trivial

end

end Cert.KernelIdeal.Val

end
-- ==== Proof.Blocks.lean ====
/-
  THE BLOCKS OF THE ARRAYS: each grid point's block of rows, read off the arrays the launch finds, and the windows' blocks as that
  block's tiles.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Body
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ)

/-- Row `r` of block `n`. -/
def row (n : ℕ) (r : Fin 128) : Fin 8192 := ⟨128 * (n % 64) + r.val, by omega⟩

/-- Block `n`, read off the arrays the launch finds. -/
def blk (c : Dev nD) (n : ℕ) : Blk where
  x j := V m c main_v0 (ix2 (row n (j 0)) (j 1))
  dr j := V m c main_v1 (ix2 (row n (j 0)) (j 1))
  q j := V m c main_v2 (ix2 (row n (j 0)) (j 1))
  k j := V m c main_v3 (ix2 (row n (j 0)) (j 1))
  w j := V m c main_v4 (ix2 (row n (j 0)) (j 1))
  g l := V m c main_arg2 (ix1 l)
  R r := V m c main_arg1 (ix2 ⟨n % 64 / 32, by omega⟩ ⟨128 * (n % 64 % 32) + r.val, by omega⟩)

/-- The running column sums before block `n`. -/
def dsum (c : Dev nD) (n : ℕ) (l : Fin 7168) : EReal := ∑ u ∈ Finset.range n, (blk m c u).ps l

theorem N64 : cfg0.N = 64 := N_0
theorem coord : ∀ t : Fin cfg0.N, (grid0.coords t 0).val = t.val := (by decide +kernel : ∀ t : Fin grid0.N, (grid0.coords t 0).val = t.val)
theorem idx0 : ∀ t : Fin cfg0.N, win0_0.index t 0 = 0 ∧ win0_0.index t 1 = t.val % 32 := (by decide +kernel : ∀ t : Fin grid0.N, win0_0.index t 0 = 0 ∧ win0_0.index t 1 = t.val % 32)
theorem idx1 : ∀ t : Fin cfg0.N, win0_1.index t 0 = 0 := (by decide +kernel : ∀ t : Fin grid0.N, win0_1.index t 0 = 0)
theorem idx2 : ∀ t : Fin cfg0.N, win0_2.index t 0 = t.val ∧ win0_2.index t 1 = 0 := (by decide +kernel : ∀ t : Fin grid0.N, win0_2.index t 0 = t.val ∧ win0_2.index t 1 = 0)
theorem idx3 : ∀ t : Fin cfg0.N, win0_3.index t 0 = t.val ∧ win0_3.index t 1 = 0 := (by decide +kernel : ∀ t : Fin grid0.N, win0_3.index t 0 = t.val ∧ win0_3.index t 1 = 0)
theorem idx4 : ∀ t : Fin cfg0.N, win0_4.index t 0 = t.val ∧ win0_4.index t 1 = 0 := (by decide +kernel : ∀ t : Fin grid0.N, win0_4.index t 0 = t.val ∧ win0_4.index t 1 = 0)
theorem idx5 : ∀ t : Fin cfg0.N, win0_5.index t 0 = t.val ∧ win0_5.index t 1 = 0 := (by decide +kernel : ∀ t : Fin grid0.N, win0_5.index t 0 = t.val ∧ win0_5.index t 1 = 0)
theorem idx6 : ∀ t : Fin cfg0.N, win0_6.index t 0 = t.val ∧ win0_6.index t 1 = 0 := (by decide +kernel : ∀ t : Fin grid0.N, win0_6.index t 0 = t.val ∧ win0_6.index t 1 = 0)
theorem idx7 : ∀ t : Fin cfg0.N, win0_7.index t 0 = t.val ∧ win0_7.index t 1 = 0 := (by decide +kernel : ∀ t : Fin grid0.N, win0_7.index t 0 = t.val ∧ win0_7.index t 1 = 0)
theorem idx10 : ∀ t : Fin cfg0.N, win0_10.index t 0 = t.val ∧ win0_10.index t 1 = 0 := (by decide +kernel : ∀ t : Fin grid0.N, win0_10.index t 0 = t.val ∧ win0_10.index t 1 = 0)
theorem idx11 : ∀ t : Fin cfg0.N, win0_11.index t 0 = t.val ∧ win0_11.index t 1 = 0 := (by decide +kernel : ∀ t : Fin grid0.N, win0_11.index t 0 = t.val ∧ win0_11.index t 1 = 0)
theorem idx12 : ∀ t : Fin cfg0.N, win0_12.index t 0 = t.val ∧ win0_12.index t 1 = 0 := (by decide +kernel : ∀ t : Fin grid0.N, win0_12.index t 0 = t.val ∧ win0_12.index t 1 = 0)
theorem idx9 : ∀ t : Fin cfg0.N, win0_9.index t 0 = t.val / 32 ∧ win0_9.index t 1 = t.val % 32 / 8 ∧ win0_9.index t 2 = 0 := (by decide +kernel : ∀ t : Fin grid0.N, win0_9.index t 0 = t.val / 32 ∧ win0_9.index t 1 = t.val % 32 / 8 ∧ win0_9.index t 2 = 0)
theorem idx13 : ∀ t : Fin cfg0.N, win0_13.index t 0 = t.val / 32 ∧ win0_13.index t 1 = t.val % 32 / 8 ∧ win0_13.index t 2 = 0 := (by decide +kernel : ∀ t : Fin grid0.N, win0_13.index t 0 = t.val / 32 ∧ win0_13.index t 1 = t.val % 32 / 8 ∧ win0_13.index t 2 = 0)
theorem idx8 : ∀ t : Fin cfg0.N, win0_8.index t 0 = 0 := (by decide +kernel : ∀ t : Fin grid0.N, win0_8.index t 0 = 0)

theorem iblk2 (c : Dev nD) (t : Fin cfg0.N) : (iblk m c 2 t : S128x7168.Idx → EReal) = (blk m c t.val).x := by
  funext j
  unfold iblk blk
  rw [View.read_apply]
  show V m c main_v0 _ = V m c main_v0 _
  congr 1
  funext a
  apply Fin.ext
  have ht : t.val < 64 := t.isLt.trans_eq N64
  match a with
  | ⟨0, _⟩ => show win0_2.index t 0 * 128 + 1 * (j 0).val = 128 * (t.val % 64) + (j 0).val; rw [(idx2 t).1]; omega
  | ⟨1, _⟩ => show win0_2.index t 1 * 7168 + 1 * (j 1).val = (j 1).val; rw [(idx2 t).2]; omega

theorem iblk3 (c : Dev nD) (t : Fin cfg0.N) : (iblk m c 3 t : S128x7168.Idx → EReal) = (blk m c t.val).dr := by
  funext j
  unfold iblk blk
  rw [View.read_apply]
  show V m c main_v1 _ = V m c main_v1 _
  congr 1
  funext a
  apply Fin.ext
  have ht : t.val < 64 := t.isLt.trans_eq N64
  match a with
  | ⟨0, _⟩ => show win0_3.index t 0 * 128 + 1 * (j 0).val = 128 * (t.val % 64) + (j 0).val; rw [(idx3 t).1]; omega
  | ⟨1, _⟩ => show win0_3.index t 1 * 7168 + 1 * (j 1).val = (j 1).val; rw [(idx3 t).2]; omega

theorem iblk4 (c : Dev nD) (t : Fin cfg0.N) : (iblk m c 4 t : S128x7168.Idx → EReal) = (blk m c t.val).q := by
  funext j
  unfold iblk blk
  rw [View.read_apply]
  show V m c main_v2 _ = V m c main_v2 _
  congr 1
  funext a
  apply Fin.ext
  have ht : t.val < 64 := t.isLt.trans_eq N64
  match a with
  | ⟨0, _⟩ => show win0_4.index t 0 * 128 + 1 * (j 0).val = 128 * (t.val % 64) + (j 0).val; rw [(idx4 t).1]; omega
  | ⟨1, _⟩ => show win0_4.index t 1 * 7168 + 1 * (j 1).val = (j 1).val; rw [(idx4 t).2]; omega

theorem iblk5 (c : Dev nD) (t : Fin cfg0.N) : (iblk m c 5 t : S128x7168.Idx → EReal) = (blk m c t.val).k := by
  funext j
  unfold iblk blk
  rw [View.read_apply]
  show V m c main_v3 _ = V m c main_v3 _
  congr 1
  funext a
  apply Fin.ext
  have ht : t.val < 64 := t.isLt.trans_eq N64
  match a with
  | ⟨0, _⟩ => show win0_5.index t 0 * 128 + 1 * (j 0).val = 128 * (t.val % 64) + (j 0).val; rw [(idx5 t).1]; omega
  | ⟨1, _⟩ => show win0_5.index t 1 * 7168 + 1 * (j 1).val = (j 1).val; rw [(idx5 t).2]; omega

theorem iblk6 (c : Dev nD) (t : Fin cfg0.N) : (iblk m c 6 t : S128x7168.Idx → EReal) = (blk m c t.val).w := by
  funext j
  unfold iblk blk
  rw [View.read_apply]
  show V m c main_v4 _ = V m c main_v4 _
  congr 1
  funext a
  apply Fin.ext
  have ht : t.val < 64 := t.isLt.trans_eq N64
  match a with
  | ⟨0, _⟩ => show win0_6.index t 0 * 128 + 1 * (j 0).val = 128 * (t.val % 64) + (j 0).val; rw [(idx6 t).1]; omega
  | ⟨1, _⟩ => show win0_6.index t 1 * 7168 + 1 * (j 1).val = (j 1).val; rw [(idx6 t).2]; omega

theorem iblk1 (c : Dev nD) (t : Fin cfg0.N) (l : Fin 7168) : (iblk m c 1 t : S7168.Idx → EReal) (ix1 l) = (blk m c t.val).g l := by
  unfold iblk blk
  rw [View.read_apply]
  show V m c main_arg2 _ = V m c main_arg2 _
  congr 1
  funext a
  apply Fin.ext
  match a with
  | ⟨0, _⟩ => show win0_1.index t 0 * 7168 + 1 * l.val = l.val; rw [idx1 t]; omega

theorem iblk0 (c : Dev nD) (t : Fin cfg0.N) (a : Fin 2) (r : Fin 128) (ha : a.val = t.val / 32) :
    (iblk m c 0 t : S2x128.Idx → EReal) (ix2 a r) = (blk m c t.val).R r := by
  unfold iblk blk
  rw [View.read_apply]
  show V m c main_arg1 _ = V m c main_arg1 _
  congr 1
  funext z
  apply Fin.ext
  have ht : t.val < 64 := t.isLt.trans_eq N64
  match z with
  | ⟨0, _⟩ => show win0_0.index t 0 * 2 + 1 * a.val = t.val % 64 / 32; rw [(idx0 t).1]; omega
  | ⟨1, _⟩ => show win0_0.index t 1 * 128 + 1 * r.val = 128 * (t.val % 64 % 32) + r.val; rw [(idx0 t).2]; omega

end Cert.KernelIdeal.Val

end
-- ==== Proof.ValRun.lean ====
/-
  THE RUN: the proof data of the launch. The inputs' windows hold their blocks; what the body leaves in an output's window at a point
  is stated as a relation, since the partial sums' and the column scales' windows fill one row per point and the weights' gradient's
  only at the last point; the weights and the running column sums are carried in scratch from point to point.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.Blocks
public import Idealize.ShloMosaic.Lib.Pipeline.DatRel
public import Idealize.ShloMosaic.Lib.Pipeline.ArrRel
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- A memref's elements on core `c`, held whole at some contents of its buffer. -/
abbrev sm (c : Dev nD) {S : Shape} {e : EltTy} (M : Memref sig .tc .vmem S e) : sProp 𝕄 :=
  iprop(∃ f : Buf (Elt Ideal) (M.view.loc (c : Thread nD τ)), M.view.loc (c : Thread nD τ) ↦[M.view.set]{fullShare} f)

section Conv
variable (c : Dev nD) {S : Shape} {e : EltTy} (M : Memref sig .tc .vmem S e)

theorem sm_hd : (sm c M : sProp 𝕄) ⊢ hd c M (fun _ => True) := by
  iintro ⟨%f, H⟩
  iexists f; isplitr; swap; (iexact H)
  ipureintro; trivial

theorem hd_sm (P : (S.Idx → Elt Ideal e) → Prop) : hd c M P ⊢ (sm c M : sProp 𝕄) := by
  iintro ⟨%f, -, H⟩
  iexists f; iexact H

theorem hd_mono (P Q : (S.Idx → Elt Ideal e) → Prop) (h : ∀ d, P d → Q d) : hd c M P ⊢ (hd c M Q : sProp 𝕄) := by
  iintro ⟨%f, %hf, H⟩
  iexists f; isplitr; swap; (iexact H)
  ipureintro; exact h _ hf

theorem owns_hd (d : S.Idx → Elt Ideal e) (P : (S.Idx → Elt Ideal e) → Prop) (h : P d) :
    (owns (c : Thread nD τ) M fullShare d : sProp 𝕄) ⊢ hd c M P := by
  unfold owns
  iintro ⟨%f, %hf, H⟩
  iexists f; isplitr; swap; (iexact H)
  ipureintro; exact hf ▸ h

theorem hd_owns (P : (S.Idx → Elt Ideal e) → Prop) : hd c M P ⊢ (iprop(∃ X, ⌜P X⌝ ∗ owns (c : Thread nD τ) M fullShare X) : sProp 𝕄) := by
  unfold owns
  iintro ⟨%f, %hf, H⟩
  iexists _; isplitr
  · ipureintro; exact hf
  iexists f; isplitr; swap; (iexact H)
  ipureintro; rfl

theorem hd_owns_eq (D : S.Idx → Elt Ideal e) : hd c M (fun d => d = D) ⊢ (owns (c : Thread nD τ) M fullShare D : sProp 𝕄) := by
  unfold owns
  iintro ⟨%f, %hf, H⟩
  iexists f; isplitr; swap; (iexact H)
  ipureintro; exact hf

end Conv

variable (m : (ℓ : Loc nD τ sig) → Buf (Elt Ideal) ℓ) (ρ : Dev nD → PrngReg)

/-- The output windows, of which what the body leaves is stated by `Rl`. -/
def fgt : Fin cfg0.W → Bool := fun | 0 => false | 1 => false | 2 => false | 3 => false | 4 => false | 5 => false | 6 => false | 7 => true | 8 => true | 9 => true | 10 => true | 11 => true | 12 => true | 13 => true | ⟨_ + 14, h⟩ => absurd h (Nat.not_lt_of_le (Nat.le_add_left 14 _))

section Rel
variable (c : Dev nD) (t : Fin cfg0.N)
/-- The gradient of the input at a point. -/
def R7 (X : S128x7168.Idx → EReal) : Prop := ∀ (r : Fin 128) (k : Fin 7168), X (ix2 r k) = (blk m c t.val).val r k
/-- The gradient of the weights at the last point. -/
def R8 (X : S7168.Idx → EReal) : Prop := t.val = 63 → ∀ k : Fin 7168, X (ix1 k) = dsum m c 64 k
/-- The partial sums' rows filled so far. -/
def R9 (X : S1x8x7168.Idx → EReal) : Prop := ∀ (a : Fin 8) (k : Fin 7168), a.val ≤ t.val % 8 → X (ix3 0 a k) = (blk m c (t.val - t.val % 8 + a.val)).ps k
/-- The rows' quantisation and scales. -/
def R10 (X : S128x7168.Idx → EReal) : Prop := ∀ (r : Fin 128) (k : Fin 7168), X (ix2 r k) = clip ((blk m c t.val).val r k * invOf ((blk m c t.val).trow r (Blk.grp k)))
def R11 (X : S128x56.Idx → EReal) : Prop := ∀ (r : Fin 128) (l : Fin 56), X (ix2 r l) = scaleOf ((blk m c t.val).trow r l)
/-- The columns' quantisation, and the column scales' rows filled so far. -/
def R12 (X : S128x7168.Idx → EReal) : Prop := ∀ (r : Fin 128) (k : Fin 7168), X (ix2 r k) = clip ((blk m c t.val).val r k * invOf ((blk m c t.val).tcol k))
def R13 (X : S1x8x7168.Idx → EReal) : Prop := ∀ (a : Fin 8) (k : Fin 7168), a.val ≤ t.val % 8 → X (ix3 0 a k) = scaleOf ((blk m c (t.val - t.val % 8 + a.val)).tcol k)
end Rel

def Rl (c : Dev nD) : (w : Fin cfg0.W) → Fin cfg0.N → ((cfg0.win w).block.Idx → Elt Ideal (cfg0.win w).elt) → Prop :=
  fun | 0 => fun t X => True | 1 => fun t X => True | 2 => fun t X => True | 3 => fun t X => True | 4 => fun t X => True | 5 => fun t X => True | 6 => fun t X => True | 7 => fun t X => R7 m c t X | 8 => fun t X => R8 m c t X | 9 => fun t X => R9 m c t X | 10 => fun t X => R10 m c t X | 11 => fun t X => R11 m c t X | 12 => fun t X => R12 m c t X | 13 => fun t X => R13 m c t X | ⟨_ + 14, h⟩ => absurd h (Nat.not_lt_of_le (Nat.le_add_left 14 _))

/-- What the body leaves in the inputs' windows: their blocks. -/
def aft (c : Dev nD) : (w : Fin cfg0.W) → Fin cfg0.N → (cfg0.win w).block.Idx → Elt Ideal (cfg0.win w).elt :=
  fun | 0 => fun t => iblk m c 0 t | 1 => fun t => iblk m c 1 t | 2 => fun t => iblk m c 2 t | 3 => fun t => iblk m c 3 t | 4 => fun t => iblk m c 4 t | 5 => fun t => iblk m c 5 t | 6 => fun t => iblk m c 6 t | 7 => fun t => Pipeline.Dat.unnamed (cfg := cfg0) 7 t | 8 => fun t => Pipeline.Dat.unnamed (cfg := cfg0) 8 t | 9 => fun t => Pipeline.Dat.unnamed (cfg := cfg0) 9 t | 10 => fun t => Pipeline.Dat.unnamed (cfg := cfg0) 10 t | 11 => fun t => Pipeline.Dat.unnamed (cfg := cfg0) 11 t | 12 => fun t => Pipeline.Dat.unnamed (cfg := cfg0) 12 t | 13 => fun t => Pipeline.Dat.unnamed (cfg := cfg0) 13 t | ⟨_ + 14, h⟩ => absurd h (Nat.not_lt_of_le (Nat.le_add_left 14 _))

/-- The scratch before point `n`: past the first, the weights and the running column sums. -/
def Phi (c : Dev nD) (n : ℕ) : sProp 𝕄 :=
  iprop(iprop((hd c (Memref.whole cc0_scratch0) (fun d => n ≠ 0 → ∀ k : Fin 7168, d (ix2 0 k) = (blk m c n).g k)) ∗
      (hd c (Memref.whole cc0_scratch1) (fun d => n ≠ 0 → ∀ (z : Fin 1) (k : Fin 7168), d (ix2 z k) = dsum m c n k)) ∗
      (sm c (Memref.whole cc0_scratch2)) ∗ (sm c (Memref.whole cc0_scratch3)) ∗ (sm c (Memref.whole cc0_scratch4)) ∗ (sm c (Memref.whole cc0_scratch5))) ∗ ∃ r, prngReg c r)

def dats (_ : Fin 1) (c : Dev nD) : Dat τ (Elt Ideal) Unit ℕ (UR sig nD τ) ℕ cfg0 c where
  A w := V m c (Pipeline.arrRef spec0 w)
  after w t := aft m c w t
  Φ n := Phi m c n.val
  q _ := fullShare
  owed _ := 0

theorem A_eq (c : Dev nD) (w : Fin cfg0.W) : (dats m 0 c).A w = V m c (Pipeline.arrRef spec0 w) := by dsimp only [dats]

theorem PhiA_eq (c : Dev nD) :
    (Pipeline.ΦA spec0 c : sProp 𝕄) = iprop(iprop((sm c (Memref.whole cc0_scratch0)) ∗ (sm c (Memref.whole cc0_scratch1)) ∗ (sm c (Memref.whole cc0_scratch2)) ∗ (sm c (Memref.whole cc0_scratch3)) ∗ (sm c (Memref.whole cc0_scratch4)) ∗ (sm c (Memref.whole cc0_scratch5))) ∗ ∃ r, prngReg c r) := by
  unfold Pipeline.ΦA; rw [scopedRest0_eq]
  simp only [sm, View.set_whole]

theorem phi_in (c : Dev nD) : (Pipeline.ΦA spec0 c : sProp 𝕄) ⊢ Phi m c 0 := by
  rw [PhiA_eq]; unfold Phi
  iintro ⟨⟨S0, S1, S2, S3, S4, S5⟩, Hg⟩
  isplitr [Hg]
  · isplitl [S0]
    · iapply (hd_mono c (Memref.whole cc0_scratch0) (fun _ => True) _ (fun _ _ h => absurd rfl h)); iapply (sm_hd c _); iexact S0
    isplitl [S1]
    · iapply (hd_mono c (Memref.whole cc0_scratch1) (fun _ => True) _ (fun _ _ h => absurd rfl h)); iapply (sm_hd c _); iexact S1
    (isplitl [S2]; · iexact S2); (isplitl [S3]; · iexact S3); (isplitl [S4]; · iexact S4); iexact S5
  · iexact Hg

theorem phi_out (c : Dev nD) (n : ℕ) : Phi m c n ⊢ (Pipeline.ΦA spec0 c : sProp 𝕄) := by
  rw [PhiA_eq]; unfold Phi
  iintro ⟨⟨S0, S1, S2, S3, S4, S5⟩, Hg⟩
  isplitr [Hg]
  · (isplitl [S0]; · iapply (hd_sm c _ _); iexact S0); (isplitl [S1]; · iapply (hd_sm c _ _); iexact S1); (isplitl [S2]; · iexact S2); (isplitl [S3]; · iexact S3); (isplitl [S4]; · iexact S4); iexact S5
  · iexact Hg

/-- A row filled at an earlier point of the eight is found as it was left. -/
theorem found9 (c : Dev nD) (t : Fin cfg0.N) (Y) (hY : ((dats m 0 c).toRRel fgt (Rl m c)).Finds 9 t Y) (a : Fin 8) (k : Fin 7168) (ha : a.val < t.val % 8) :
    (Y : S1x8x7168.Idx → EReal) (ix3 0 a k) = (blk m c (t.val - t.val % 8 + a.val)).ps k := by
  have ht : t.val ≠ 0 := by omega
  rcases (((dats m 0 c).toRRel fgt (Rl m c)).finds_of_pos (w := 9) (t := t) rfl ht Y).mp hY with h | h
  · have := (flush0_9 _).mp h
    have h2 : (t.val - 1) % 8 = 7 := this
    omega
  · have h3 : R9 m c ⟨t.val - 1, Nat.lt_of_le_of_lt (Nat.sub_le _ _) t.isLt⟩ Y := (dats m 0 c).toRRel_leaves (fgt := fgt) (Rl := Rl m c) (w := 9) rfl h
    have h4 := h3 a k (by show a.val ≤ (t.val - 1) % 8; omega)
    rw [show t.val - t.val % 8 = (t.val - 1) - (t.val - 1) % 8 by omega]
    exact h4

theorem found13 (c : Dev nD) (t : Fin cfg0.N) (Y) (hY : ((dats m 0 c).toRRel fgt (Rl m c)).Finds 13 t Y) (a : Fin 8) (k : Fin 7168) (ha : a.val < t.val % 8) :
    (Y : S1x8x7168.Idx → EReal) (ix3 0 a k) = scaleOf ((blk m c (t.val - t.val % 8 + a.val)).tcol k) := by
  have ht : t.val ≠ 0 := by omega
  rcases (((dats m 0 c).toRRel fgt (Rl m c)).finds_of_pos (w := 13) (t := t) rfl ht Y).mp hY with h | h
  · have := (flush0_13 _).mp h
    have h2 : (t.val - 1) % 8 = 7 := this
    omega
  · have h3 : R13 m c ⟨t.val - 1, Nat.lt_of_le_of_lt (Nat.sub_le _ _) t.isLt⟩ Y := (dats m 0 c).toRRel_leaves (fgt := fgt) (Rl := Rl m c) (w := 13) rfl h
    have h4 := h3 a k (by show a.val ≤ (t.val - 1) % 8; omega)
    rw [show t.val - t.val % 8 = (t.val - 1) - (t.val - 1) % 8 by omega]
    exact h4

def bodyPre (c : Dev nD) (t : Fin cfg0.N) : sProp 𝕄 :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ Y, ⌜((dats m 0 c).toRRel fgt (Rl m c)).Finds 7 t Y⌝ ∗ owns (c : Thread nD τ) ((cfg0.win 7).stage (cfg0.slots t 7)) fullShare Y) ∗ (∃ Y, ⌜((dats m 0 c).toRRel fgt (Rl m c)).Finds 8 t Y⌝ ∗ owns (c : Thread nD τ) ((cfg0.win 8).stage (cfg0.slots t 8)) fullShare Y) ∗ (∃ Y, ⌜((dats m 0 c).toRRel fgt (Rl m c)).Finds 9 t Y⌝ ∗ owns (c : Thread nD τ) ((cfg0.win 9).stage (cfg0.slots t 9)) fullShare Y) ∗ (∃ Y, ⌜((dats m 0 c).toRRel fgt (Rl m c)).Finds 10 t Y⌝ ∗ owns (c : Thread nD τ) ((cfg0.win 10).stage (cfg0.slots t 10)) fullShare Y) ∗ (∃ Y, ⌜((dats m 0 c).toRRel fgt (Rl m c)).Finds 11 t Y⌝ ∗ owns (c : Thread nD τ) ((cfg0.win 11).stage (cfg0.slots t 11)) fullShare Y) ∗ (∃ Y, ⌜((dats m 0 c).toRRel fgt (Rl m c)).Finds 12 t Y⌝ ∗ owns (c : Thread nD τ) ((cfg0.win 12).stage (cfg0.slots t 12)) fullShare Y) ∗ (∃ Y, ⌜((dats m 0 c).toRRel fgt (Rl m c)).Finds 13 t Y⌝ ∗ owns (c : Thread nD τ) ((cfg0.win 13).stage (cfg0.slots t 13)) fullShare Y))
def bodyPost (c : Dev nD) (t : Fin cfg0.N) : sProp 𝕄 :=
  iprop((dats m 0 c).Φ t.succ ∗ (dats m 0 c).owesAt () t.succ ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ (∃ X, ⌜Rl m c 7 t X⌝ ∗ owns (c : Thread nD τ) ((cfg0.win 7).stage (cfg0.slots t 7)) fullShare X) ∗ (∃ X, ⌜Rl m c 8 t X⌝ ∗ owns (c : Thread nD τ) ((cfg0.win 8).stage (cfg0.slots t 8)) fullShare X) ∗ (∃ X, ⌜Rl m c 9 t X⌝ ∗ owns (c : Thread nD τ) ((cfg0.win 9).stage (cfg0.slots t 9)) fullShare X) ∗ (∃ X, ⌜Rl m c 10 t X⌝ ∗ owns (c : Thread nD τ) ((cfg0.win 10).stage (cfg0.slots t 10)) fullShare X) ∗ (∃ X, ⌜Rl m c 11 t X⌝ ∗ owns (c : Thread nD τ) ((cfg0.win 11).stage (cfg0.slots t 11)) fullShare X) ∗ (∃ X, ⌜Rl m c 12 t X⌝ ∗ owns (c : Thread nD τ) ((cfg0.win 12).stage (cfg0.slots t 12)) fullShare X) ∗ (∃ X, ⌜Rl m c 13 t X⌝ ∗ owns (c : Thread nD τ) ((cfg0.win 13).stage (cfg0.slots t 13)) fullShare X))

set_option maxHeartbeats 4000000 in
/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Phi m c (t.val + 1) from rfl,
    show (dats m 0 c).owesAt () t.succ = (dats m 0 c).owesAt () t.castSucc from rfl,
    show (dats m 0 c).Φ t.castSucc = Phi m c t.val from rfl]
  unfold Phi
  have ht : t.val < 64 := t.isLt.trans_eq N64
  iintro ⟨⟨⟨S0, S1, S2, S3, S4, S5⟩, Hg⟩, HO, ⟨%d0, W0⟩, ⟨%d1, W1⟩, ⟨%d2, W2⟩, ⟨%d3, W3⟩, ⟨%d4, W4⟩, ⟨%d5, W5⟩, ⟨%d6, W6⟩, ⟨%Y7, %hY7, W7⟩, ⟨%Y8, %hY8, W8⟩, ⟨%Y9, %hY9, W9⟩, ⟨%Y10, %hY10, W10⟩, ⟨%Y11, %hY11, W11⟩, ⟨%Y12, %hY12, W12⟩, ⟨%Y13, %hY13, W13⟩⟩
  rw [before0_0_of m (dats m 0 c) (A_eq m c 0) (fun _ => rfl) t d0]
  rw [before0_1_of m (dats m 0 c) (A_eq m c 1) (fun _ => rfl) t d1]
  rw [before0_2_of m (dats m 0 c) (A_eq m c 2) (fun _ => rfl) t d2]
  rw [before0_3_of m (dats m 0 c) (A_eq m c 3) (fun _ => rfl) t d3]
  rw [before0_4_of m (dats m 0 c) (A_eq m c 4) (fun _ => rfl) t d4]
  rw [before0_5_of m (dats m 0 c) (A_eq m c 5) (fun _ => rfl) t d5]
  rw [before0_6_of m (dats m 0 c) (A_eq m c 6) (fun _ => rfl) t d6]
  iapply (wp_wand_r frame _)
  isplitl [S0 S1 S2 S3 S4 S5 W0 W1 W2 W3 W4 W5 W6 W7 W8 W9 W10 W11 W12 W13]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (blk m c t.val) (iblk m c 0 t) (iblk m c 1 t)
      (fun a k => (Y9 : S1x8x7168.Idx → EReal) (ix3 0 a k)) (fun a k => (Y13 : S1x8x7168.Idx → EReal) (ix3 0 a k)) (dsum m c t.val)
      (fun a r h => iblk0 m c t a r (h.trans (congrArg (· / 32) (coord t)))) (iblk1 m c t)
      (fun h k => by rw [coord t] at h; rw [h]; exact Finset.sum_range_zero _))
    isplitl [W0]
    · iapply (owns_hd c _ _ (fun d => d = iblk m c 0 t) rfl); iexact W0
    isplitl [W1]
    · iapply (owns_hd c _ _ (fun d => d = iblk m c 1 t) rfl); iexact W1
    isplitl [W2]
    · iapply (owns_hd c _ _ (fun d => d = (blk m c t.val).x) (iblk2 m c t)); iexact W2
    isplitl [W3]
    · iapply (owns_hd c _ _ (fun d => d = (blk m c t.val).dr) (iblk3 m c t)); iexact W3
    isplitl [W4]
    · iapply (owns_hd c _ _ (fun d => d = (blk m c t.val).q) (iblk4 m c t)); iexact W4
    isplitl [W5]
    · iapply (owns_hd c _ _ (fun d => d = (blk m c t.val).k) (iblk5 m c t)); iexact W5
    isplitl [W6]
    · iapply (owns_hd c _ _ (fun d => d = (blk m c t.val).w) (iblk6 m c t)); iexact W6
    isplitl [W7]
    · iapply (owns_hd c _ _ (fun _ => True) trivial); iexact W7
    isplitl [W8]
    · iapply (owns_hd c _ _ (fun _ => True) trivial); iexact W8
    isplitl [W9]
    · iapply (owns_hd c _ _ (fun d => ∀ (a : Fin 8) (k : Fin 7168), d (ix3 0 a k) = (Y9 : S1x8x7168.Idx → EReal) (ix3 0 a k)) (fun _ _ => rfl)); iexact W9
    isplitl [W10]
    · iapply (owns_hd c _ _ (fun _ => True) trivial); iexact W10
    isplitl [W11]
    · iapply (owns_hd c _ _ (fun _ => True) trivial); iexact W11
    isplitl [W12]
    · iapply (owns_hd c _ _ (fun _ => True) trivial); iexact W12
    isplitl [W13]
    · iapply (owns_hd c _ _ (fun d => ∀ (a : Fin 8) (k : Fin 7168), d (ix3 0 a k) = (Y13 : S1x8x7168.Idx → EReal) (ix3 0 a k)) (fun _ _ => rfl)); iexact W13
    isplitl [S0]
    · iapply (hd_mono c (Memref.whole cc0_scratch0) (fun d => t.val ≠ 0 → ∀ k : Fin 7168, d (ix2 0 k) = (blk m c t.val).g k) _ (fun d hd h => hd (fun h0 => h ((coord t).trans h0)))); iexact S0
    isplitl [S1]
    · iapply (hd_mono c (Memref.whole cc0_scratch1) (fun d => t.val ≠ 0 → ∀ (z : Fin 1) (k : Fin 7168), d (ix2 z k) = dsum m c t.val k) _ (fun d hd h => hd (fun h0 => h ((coord t).trans h0)))); iexact S1
    isplitl [S2]
    · iapply (sm_hd c _); iexact S2
    isplitl [S3]
    · iapply (sm_hd c _); iexact S3
    isplitl [S4]
    · iapply (sm_hd c _); iexact S4
    iapply (sm_hd c _); iexact S5
  iintro %x ⟨X0, X1, X2, X3, X4, X5, X6, X7, X8, X9, X10, X11, X12, X13, S0, S1, S2, S3, S4, S5⟩
  isplitl [S0 S1 S2 S3 S4 S5 Hg]
  · isplitl [S0 S1 S2 S3 S4 S5]
    · isplitl [S0]
      · iapply (hd_mono c _ _ _ (fun d hd _ => hd)); iexact S0
      isplitl [S1]
      · iapply (hd_mono c (Memref.whole cc0_scratch1) (fun d => ∀ (z : Fin 1) (k : Fin 7168), d (ix2 z k) = dsum m c t.val k + (blk m c t.val).ps k) _ (fun d hd _ z k => (hd z k).trans (Finset.sum_range_succ (fun u => (blk m c u).ps k) t.val).symm)); iexact S1
      (isplitl [S2]; · iapply (hd_sm c _ _); iexact S2); (isplitl [S3]; · iapply (hd_sm c _ _); iexact S3); (isplitl [S4]; · iapply (hd_sm c _ _); iexact S4); iapply (hd_sm c _ _); iexact S5
    · iexact Hg
  isplitl [HO]; · iexact HO
  isplitl [X0]
  · iapply (hd_owns_eq c _ _); iexact X0
  isplitl [X1]
  · iapply (hd_owns_eq c _ _); iexact X1
  isplitl [X2]
  · rw [show (dats m 0 c).after 2 t = (blk m c t.val).x from iblk2 m c t]; iapply (hd_owns_eq c _ _); iexact X2
  isplitl [X3]
  · rw [show (dats m 0 c).after 3 t = (blk m c t.val).dr from iblk3 m c t]; iapply (hd_owns_eq c _ _); iexact X3
  isplitl [X4]
  · rw [show (dats m 0 c).after 4 t = (blk m c t.val).q from iblk4 m c t]; iapply (hd_owns_eq c _ _); iexact X4
  isplitl [X5]
  · rw [show (dats m 0 c).after 5 t = (blk m c t.val).k from iblk5 m c t]; iapply (hd_owns_eq c _ _); iexact X5
  isplitl [X6]
  · rw [show (dats m 0 c).after 6 t = (blk m c t.val).w from iblk6 m c t]; iapply (hd_owns_eq c _ _); iexact X6
  isplitl [X7]
  · iapply (hd_owns c _ (R7 m c t))
    iapply (hd_mono c _ _ (R7 m c t) (fun d hd => hd)); iexact X7
  isplitl [X8]
  · iapply (hd_owns c _ (R8 m c t))
    iapply (hd_mono c _ (fun d => (grid0.coords t 0).val = 63 → ∀ k : Fin 7168, d (ix1 k) = dsum m c t.val k + (blk m c t.val).ps k) (R8 m c t) (fun d hd h k => (hd ((coord t).trans h) k).trans (by
        rw [show (64 : ℕ) = t.val + 1 by omega]
        exact (Finset.sum_range_succ (fun u => (blk m c u).ps k) t.val).symm))); iexact X8
  isplitl [X9]
  · iapply (hd_owns c _ (R9 m c t))
    iapply (hd_mono c _ (fun d => ∀ (a : Fin 8) (k : Fin 7168), d (ix3 0 a k) = if a.val = (grid0.coords t 0).val % 8 then (blk m c t.val).ps k else (Y9 : S1x8x7168.Idx → EReal) (ix3 0 a k)) (R9 m c t) (fun d hd a k ha => (hd a k).trans (by
        rw [coord t]
        by_cases h : a.val = t.val % 8
        · rw [if_pos h, h, Nat.sub_add_cancel (Nat.mod_le _ _)]
        · rw [if_neg h]; exact found9 m c t Y9 hY9 a k (by omega)))); iexact X9
  isplitl [X10]
  · iapply (hd_owns c _ (R10 m c t))
    iapply (hd_mono c _ _ (R10 m c t) (fun d hd => hd)); iexact X10
  isplitl [X11]
  · iapply (hd_owns c _ (R11 m c t))
    iapply (hd_mono c _ _ (R11 m c t) (fun d hd => hd)); iexact X11
  isplitl [X12]
  · iapply (hd_owns c _ (R12 m c t))
    iapply (hd_mono c _ _ (R12 m c t) (fun d hd => hd)); iexact X12
  iapply (hd_owns c _ (R13 m c t))
  iapply (hd_mono c _ (fun d => ∀ (a : Fin 8) (k : Fin 7168), d (ix3 0 a k) = if a.val = (grid0.coords t 0).val % 8 then scaleOf ((blk m c t.val).tcol k) else (Y13 : S1x8x7168.Idx → EReal) (ix3 0 a k)) (R13 m c t) (fun d hd a k ha => (hd a k).trans (by
        rw [coord t]
        by_cases h : a.val = t.val % 8
        · rw [if_pos h, h, Nat.sub_add_cancel (Nat.mod_le _ _)]
        · rw [if_neg h]; exact found13 m c t Y13 hY13 a k (by omega)))); iexact X13

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    Pipeline.BodyObligationRel (dats m 0 c) (defs₀ (F := Ideal)) Variants.none () Set.univ fgt (Rl m c) := fun t => by
  rw [bigSep_W0, bigSep_W0, defs₀_row]
  exact triple_restated (sound_body m c t) rfl .rfl fun _ => .rfl

set_option backward.isDefEq.respectTransparency.types false in
/-- From any memory with zero counters, every execution ends, each output array at contents its relation allows. -/
theorem run_main :
    θ_run defs (onTc (τ := τ) (main (F := Ideal))) (s₀ m ρ)
      (fun r => Pipeline.RDat.FramePost (cfgs 0) (fun c => (dats m 0 c).toRRel fgt (Rl m c)) (V m) r ∧ r.2.sem = fun _ => 0) :=
  Pipeline.RDat.θ_run_frame_track (Q' := _) cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m)
    (hin := phi_in m) (hout := fun c => phi_out m c _)

end Cert.KernelIdeal.Val

end
-- ==== Proof.Finals.lean ====
/-
  THE RESULT ARRAYS after the run, each as one function of the blocks: a tile's element is the block's of its rows, a statistic's row
  is a block's, and the weights' gradient is the sum over all 64 blocks.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import proofs.«01_k».proof.Proof.ValRun
@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- An array of 64 blocks of 128 rows. -/
def tile {K : ℕ} (F : ℕ → Fin 128 → Fin K → EReal) : (⟨2, ![8192, K]⟩ : Shape).Idx → EReal :=
  fun i => F ((i 0).val / 128) ⟨(i 0).val % 128, Nat.mod_lt _ (by decide)⟩ (i 1)

/-- An array of one row per block. -/
def stat (F : ℕ → Fin 7168 → EReal) : S2x32x7168.Idx → EReal := fun i => F (32 * (i 0).val + (i 1).val) (i 2)

theorem tile_at {K : ℕ} (F : ℕ → Fin 128 → Fin K → EReal) (n : ℕ) (r : Fin 128) (k : Fin K) (i : (⟨2, ![8192, K]⟩ : Shape).Idx)
    (h0 : (i 0).val = n * 128 + 1 * r.val) (h1 : (i 1).val = k.val) : tile F i = F n r k := by
  unfold tile
  have e0 : (i 0).val / 128 = n := by omega
  have e1 : (⟨(i 0).val % 128, Nat.mod_lt _ (by decide)⟩ : Fin 128) = r := by apply Fin.ext; show (i 0).val % 128 = r.val; omega
  rw [e0, e1]
  exact congrArg (F n r) (Fin.ext h1)

theorem stat_at (F : ℕ → Fin 7168 → EReal) (n : ℕ) (k : Fin 7168) (i : S2x32x7168.Idx)
    (h0 : 32 * (i 0).val + (i 1).val = n) (h1 : (i 2).val = k.val) : stat F i = F n k := by
  unfold stat
  rw [h0]
  exact congrArg (F n) (Fin.ext h1)

theorem eta1 {A : ℕ} (y : (⟨1, ![A]⟩ : Shape).Idx) : y = ix1 (y 0) := by
  funext a
  match a with
  | ⟨0, _⟩ => rfl
theorem eta2 {A B : ℕ} (y : (⟨2, ![A, B]⟩ : Shape).Idx) : y = ix2 (y 0) (y 1) := by
  funext a
  match a with
  | ⟨0, _⟩ => rfl
  | ⟨1, _⟩ => rfl
theorem eta3 {A B C : ℕ} (y : (⟨3, ![A, B, C]⟩ : Shape).Idx) : y = ix3 (y 0) (y 1) (y 2) := by
  funext a
  match a with
  | ⟨0, _⟩ => rfl
  | ⟨1, _⟩ => rfl
  | ⟨2, _⟩ => rfl

section Arr
variable (c : Dev nD) (after : (w : Fin cfg0.W) → Fin cfg0.N → (cfg0.win w).block.Idx → Elt Ideal (cfg0.win w).elt)

/-- The exact proof data with the outputs' contents named. -/
abbrev ex : Dat τ (Elt Ideal) Unit ℕ (UR sig nD τ) ℕ cfg0 c := ((dats m 0 c).toRRel fgt (Rl m c)).withAfter after

set_option backward.isDefEq.respectTransparency.types false in
theorem arr7 (h : ∀ t, (cfg0.win 7).flush t = true → R7 m c t (after 7 t)) :
    ((ex m c after).arrAt 7 cfg0.N : (⟨2, ![8192, 7168]⟩ : Shape).Idx → EReal) = tile (fun n r k => (blk m c n).val r k) := by
  refine (ex m c after).arrAt_eq_of_covers 7 _ (by decide +kernel) fun t hf y => ?_
  have ht : t.val < 64 := t.isLt.trans_eq N64
  have hy : (after 7 t : (⟨2, ![128, 7168]⟩ : Shape).Idx → EReal) y = _ := (congrArg (after 7 t : (⟨2, ![128, 7168]⟩ : Shape).Idx → EReal) (eta2 (A := 128) (B := 7168) y)).trans (h t hf (y 0) (y 1))
  refine Eq.trans (?_ : _ = (after 7 t : (⟨2, ![128, 7168]⟩ : Shape).Idx → EReal) y) (hy.trans (tile_at (fun n r k => (blk m c n).val r k) t.val (y 0) (y 1) _ ?_ ?_).symm)
  · rfl
  · show win0_7.index t 0 * 128 + 1 * (y 0).val = t.val * 128 + 1 * (y 0).val; rw [(idx7 t).1]
  · show win0_7.index t 1 * 7168 + 1 * (y 1).val = (y 1).val; rw [(idx7 t).2]; omega

set_option backward.isDefEq.respectTransparency.types false in
theorem arr10 (h : ∀ t, (cfg0.win 10).flush t = true → R10 m c t (after 10 t)) :
    ((ex m c after).arrAt 10 cfg0.N : (⟨2, ![8192, 7168]⟩ : Shape).Idx → EReal) = tile (fun n r k => clip ((blk m c n).val r k * invOf ((blk m c n).trow r (Blk.grp k)))) := by
  refine (ex m c after).arrAt_eq_of_covers 10 _ (by decide +kernel) fun t hf y => ?_
  have ht : t.val < 64 := t.isLt.trans_eq N64
  have hy : (after 10 t : (⟨2, ![128, 7168]⟩ : Shape).Idx → EReal) y = _ := (congrArg (after 10 t : (⟨2, ![128, 7168]⟩ : Shape).Idx → EReal) (eta2 (A := 128) (B := 7168) y)).trans (h t hf (y 0) (y 1))
  refine Eq.trans (?_ : _ = (after 10 t : (⟨2, ![128, 7168]⟩ : Shape).Idx → EReal) y) (hy.trans (tile_at (fun n r k => clip ((blk m c n).val r k * invOf ((blk m c n).trow r (Blk.grp k)))) t.val (y 0) (y 1) _ ?_ ?_).symm)
  · rfl
  · show win0_10.index t 0 * 128 + 1 * (y 0).val = t.val * 128 + 1 * (y 0).val; rw [(idx10 t).1]
  · show win0_10.index t 1 * 7168 + 1 * (y 1).val = (y 1).val; rw [(idx10 t).2]; omega

set_option backward.isDefEq.respectTransparency.types false in
theorem arr11 (h : ∀ t, (cfg0.win 11).flush t = true → R11 m c t (after 11 t)) :
    ((ex m c after).arrAt 11 cfg0.N : (⟨2, ![8192, 56]⟩ : Shape).Idx → EReal) = tile (fun n r l => scaleOf ((blk m c n).trow r l)) := by
  refine (ex m c after).arrAt_eq_of_covers 11 _ (by decide +kernel) fun t hf y => ?_
  have ht : t.val < 64 := t.isLt.trans_eq N64
  have hy : (after 11 t : (⟨2, ![128, 56]⟩ : Shape).Idx → EReal) y = _ := (congrArg (after 11 t : (⟨2, ![128, 56]⟩ : Shape).Idx → EReal) (eta2 (A := 128) (B := 56) y)).trans (h t hf (y 0) (y 1))
  refine Eq.trans (?_ : _ = (after 11 t : (⟨2, ![128, 56]⟩ : Shape).Idx → EReal) y) (hy.trans (tile_at (fun n r l => scaleOf ((blk m c n).trow r l)) t.val (y 0) (y 1) _ ?_ ?_).symm)
  · rfl
  · show win0_11.index t 0 * 128 + 1 * (y 0).val = t.val * 128 + 1 * (y 0).val; rw [(idx11 t).1]
  · show win0_11.index t 1 * 56 + 1 * (y 1).val = (y 1).val; rw [(idx11 t).2]; omega

set_option backward.isDefEq.respectTransparency.types false in
theorem arr12 (h : ∀ t, (cfg0.win 12).flush t = true → R12 m c t (after 12 t)) :
    ((ex m c after).arrAt 12 cfg0.N : (⟨2, ![8192, 7168]⟩ : Shape).Idx → EReal) = tile (fun n r k => clip ((blk m c n).val r k * invOf ((blk m c n).tcol k))) := by
  refine (ex m c after).arrAt_eq_of_covers 12 _ (by decide +kernel) fun t hf y => ?_
  have ht : t.val < 64 := t.isLt.trans_eq N64
  have hy : (after 12 t : (⟨2, ![128, 7168]⟩ : Shape).Idx → EReal) y = _ := (congrArg (after 12 t : (⟨2, ![128, 7168]⟩ : Shape).Idx → EReal) (eta2 (A := 128) (B := 7168) y)).trans (h t hf (y 0) (y 1))
  refine Eq.trans (?_ : _ = (after 12 t : (⟨2, ![128, 7168]⟩ : Shape).Idx → EReal) y) (hy.trans (tile_at (fun n r k => clip ((blk m c n).val r k * invOf ((blk m c n).tcol k))) t.val (y 0) (y 1) _ ?_ ?_).symm)
  · rfl
  · show win0_12.index t 0 * 128 + 1 * (y 0).val = t.val * 128 + 1 * (y 0).val; rw [(idx12 t).1]
  · show win0_12.index t 1 * 7168 + 1 * (y 1).val = (y 1).val; rw [(idx12 t).2]; omega

set_option backward.isDefEq.respectTransparency.types false in
theorem arr9 (h : ∀ t, (cfg0.win 9).flush t = true → R9 m c t (after 9 t)) :
    ((ex m c after).arrAt 9 cfg0.N : S2x32x7168.Idx → EReal) = stat (fun n k => (blk m c n).ps k) := by
  refine (ex m c after).arrAt_eq_of_covers 9 _ (by decide +kernel) fun t hf y => ?_
  have ht : t.val < 64 := t.isLt.trans_eq N64
  have h7 : t.val % 8 = 7 := (flush0_9 t).mp hf
  have h0 : (y 0).val = 0 := Nat.lt_one_iff.mp (show (y 0).val < 1 from (y 0).isLt)
  have h1 : (y 1).val < 8 := (y 1).isLt
  have hy : (after 9 t : S1x8x7168.Idx → EReal) y = _ := (congrArg (after 9 t : S1x8x7168.Idx → EReal) ((eta3 (A := 1) (B := 8) (C := 7168) y).trans (congrArg (fun z : Fin 1 => ix3 z (y 1) (y 2)) (@Subsingleton.elim (Fin 1) _ (y 0) 0)))).trans (h t hf (y 1) (y 2) (by show ((y 1)).val ≤ _; omega))
  refine Eq.trans (?_ : _ = (after 9 t : S1x8x7168.Idx → EReal) y) (hy.trans (stat_at (fun n k => (blk m c n).ps k) (t.val - t.val % 8 + ((y 1)).val) (y 2) _ ?_ ?_).symm)
  · rfl
  · show 32 * (win0_9.index t 0 * 1 + 1 * (y 0).val) + (win0_9.index t 1 * 8 + 1 * (y 1).val) = t.val - t.val % 8 + (y 1).val
    rw [(idx9 t).1, (idx9 t).2.1]; omega
  · show win0_9.index t 2 * 7168 + 1 * (y 2).val = (y 2).val; rw [(idx9 t).2.2]; omega

set_option backward.isDefEq.respectTransparency.types false in
theorem arr13 (h : ∀ t, (cfg0.win 13).flush t = true → R13 m c t (after 13 t)) :
    ((ex m c after).arrAt 13 cfg0.N : S2x32x7168.Idx → EReal) = stat (fun n k => scaleOf ((blk m c n).tcol k)) := by
  refine (ex m c after).arrAt_eq_of_covers 13 _ (by decide +kernel) fun t hf y => ?_
  have ht : t.val < 64 := t.isLt.trans_eq N64
  have h7 : t.val % 8 = 7 := (flush0_13 t).mp hf
  have h0 : (y 0).val = 0 := Nat.lt_one_iff.mp (show (y 0).val < 1 from (y 0).isLt)
  have h1 : (y 1).val < 8 := (y 1).isLt
  have hy : (after 13 t : S1x8x7168.Idx → EReal) y = _ := (congrArg (after 13 t : S1x8x7168.Idx → EReal) ((eta3 (A := 1) (B := 8) (C := 7168) y).trans (congrArg (fun z : Fin 1 => ix3 z (y 1) (y 2)) (@Subsingleton.elim (Fin 1) _ (y 0) 0)))).trans (h t hf (y 1) (y 2) (by show ((y 1)).val ≤ _; omega))
  refine Eq.trans (?_ : _ = (after 13 t : S1x8x7168.Idx → EReal) y) (hy.trans (stat_at (fun n k => scaleOf ((blk m c n).tcol k)) (t.val - t.val % 8 + ((y 1)).val) (y 2) _ ?_ ?_).symm)
  · rfl
  · show 32 * (win0_13.index t 0 * 1 + 1 * (y 0).val) + (win0_13.index t 1 * 8 + 1 * (y 1).val) = t.val - t.val % 8 + (y 1).val
    rw [(idx13 t).1, (idx13 t).2.1]; omega
  · show win0_13.index t 2 * 7168 + 1 * (y 2).val = (y 2).val; rw [(idx13 t).2.2]; omega

set_option backward.isDefEq.respectTransparency.types false in
theorem arr8 (h : ∀ t, (cfg0.win 8).flush t = true → R8 m c t (after 8 t)) :
    ((ex m c after).arrAt 8 cfg0.N : S7168.Idx → EReal) = fun i => dsum m c 64 (i 0) := by
  refine (ex m c after).arrAt_eq_of_covers 8 _ (by decide +kernel) fun t hf y => ?_
  have ht : t.val < 64 := t.isLt.trans_eq N64
  have h63 : t.val = 63 := by have := (flush0_8 t).mp hf; omega
  have hy : (after 8 t : S7168.Idx → EReal) y = _ := (congrArg (after 8 t : S7168.Idx → EReal) (eta1 (A := 7168) y)).trans (h t hf h63 (y 0))
  refine Eq.trans (?_ : _ = (after 8 t : S7168.Idx → EReal) y) (hy.trans (congrArg (dsum m c 64) (Fin.ext ?_)))
  · rfl
  · show (y 0).val = win0_8.index t 0 * 7168 + 1 * (y 0).val; rw [idx8 t]; omega

end Arr

/-- What is read off the memory after the run. -/
def Post (c : Dev nD) (mem : (ℓ : Loc nD τ sig) → Buf (Elt Ideal) ℓ) : Prop :=
  (mem ((c : Thread nD τ).loc main_v5_0) : S8192x7168.Idx → EReal) = tile (fun n r k => (blk m c n).val r k)
  ∧ (mem ((c : Thread nD τ).loc main_v5_1) : S7168.Idx → EReal) = (fun i => dsum m c 64 (i 0))
  ∧ (mem ((c : Thread nD τ).loc main_v5_2) : S2x32x7168.Idx → EReal) = stat (fun n k => (blk m c n).ps k)
  ∧ (mem ((c : Thread nD τ).loc main_v5_3) : S8192x7168.Idx → EReal) = tile (fun n r k => clip ((blk m c n).val r k * invOf ((blk m c n).trow r (Blk.grp k))))
  ∧ (mem ((c : Thread nD τ).loc main_v5_4) : S8192x56.Idx → EReal) = tile (fun n r l => scaleOf ((blk m c n).trow r l))
  ∧ (mem ((c : Thread nD τ).loc main_v5_5) : S8192x7168.Idx → EReal) = tile (fun n r k => clip ((blk m c n).val r k * invOf ((blk m c n).tcol k)))
  ∧ (mem ((c : Thread nD τ).loc main_v5_6) : S2x32x7168.Idx → EReal) = stat (fun n k => scaleOf ((blk m c n).tcol k))
  ∧ mem ((c : Thread nD τ).loc main_arg0) = m ((c : Thread nD τ).loc main_arg0)
  ∧ mem ((c : Thread nD τ).loc main_arg1) = m ((c : Thread nD τ).loc main_arg1)
  ∧ mem ((c : Thread nD τ).loc main_arg2) = m ((c : Thread nD τ).loc main_arg2)
  ∧ mem ((c : Thread nD τ).loc main_arg3) = m ((c : Thread nD τ).loc main_arg3)
  ∧ mem ((c : Thread nD τ).loc main_arg4) = m ((c : Thread nD τ).loc main_arg4)
  ∧ mem ((c : Thread nD τ).loc main_arg5) = m ((c : Thread nD τ).loc main_arg5)
  ∧ mem ((c : Thread nD τ).loc main_arg6) = m ((c : Thread nD τ).loc main_arg6)

set_option backward.isDefEq.respectTransparency.types false in
/-- The run, read. -/
theorem run : θ_run defs (onTc (τ := τ) (main (F := Ideal))) ⟨m, fun _ => 0, ρ⟩ fun r => ∀ c : Dev nD, Post m c r.2.mem := by
  refine (θ_run defs _ _).mono (fun r hr c => ?_) (run_main m ρ)
  have h := hr.1
  obtain ⟨after, hL, hA⟩ := Pipeline.RDat.FramePost.exists_exact h c
  have hR : ∀ (w : Fin cfg0.W), fgt w = true → ∀ t, (cfg0.win w).flush t = true → Rl m c w t (after w t) := fun w hw t hf =>
    (dats m 0 c).toRRel_leaves (fgt := fgt) (Rl := Rl m c) hw (hL w t hf)
  refine ⟨(hA 7).trans (arr7 m c after (hR 7 rfl)),
    (hA 8).trans (arr8 m c after (hR 8 rfl)),
    (hA 9).trans (arr9 m c after (hR 9 rfl)),
    (hA 10).trans (arr10 m c after (hR 10 rfl)),
    (hA 11).trans (arr11 m c after (hR 11 rfl)),
    (hA 12).trans (arr12 m c after (hR 12 rfl)),
    (hA 13).trans (arr13 m c after (hR 13 rfl)),
    ((h c).2 main_arg0 (Pipeline.mem_restRefs_of main_arg0 (by decide) (by decide))).trans (V_main_arg0 m c),
    ((hA 0).trans ((ex m c after).arrAt_in 0 rfl _)).trans ((A_eq m c 0).trans (V_main_arg1 m c)),
    ((hA 1).trans ((ex m c after).arrAt_in 1 rfl _)).trans ((A_eq m c 1).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.KernelIdeal.Val

end
-- ==== Proof.KerMath.lean ====
/-
  THE KERNEL'S RESULTS as the mathematics over its arguments: each block's rows are rows of the flattened arrays, and its statistics
  are those of the layer.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pointwise
public import Idealize.ShloMosaic.Lib.WritesUnit
public import Idealize.ShloMosaic.Lib.VecWindow
public import Idealize.ShloMosaic.Lib.StableHlo.RunRead
public import Idealize.ShloMosaic.Lib.Claim
public import proofs.«01_k».proof.Proof.Finals
public import proofs.«01_k».proof.Proof.Math

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

open Cert.Norm

variable (m : (ℓ : Loc nD τ sig) → Buf (Elt Ideal) ℓ) (ρ : Dev nD → PrngReg)

/-- The kernel's arguments. -/
def inp (c : Dev nD) : In where
  x b s l := (m (c, Proc.devRef .tc main_arg0) : S2x4096x7168.Idx → EReal) (ix3 b s l)
  dr b s l := (m (c, Proc.devRef .tc main_arg3) : S2x4096x7168.Idx → EReal) (ix3 b s l)
  q b s l := (m (c, Proc.devRef .tc main_arg4) : S2x4096x7168.Idx → EReal) (ix3 b s l)
  k b s l := (m (c, Proc.devRef .tc main_arg5) : S2x4096x7168.Idx → EReal) (ix3 b s l)
  w b s l := (m (c, Proc.devRef .tc main_arg6) : S2x4096x7168.Idx → EReal) (ix3 b s l)
  r b s := (m (c, Proc.devRef .tc main_arg1) : S2x4096.Idx → EReal) (ix2 b s)
  g l := (m (c, Proc.devRef .tc main_arg2) : S7168.Idx → EReal) (ix1 l)

theorem hv0 (c : Dev nD) (i : Fin 8192) (k : Fin 7168) : (V m c main_v0 : S8192x7168.Idx → EReal) (ix2 i k) = (inp m c).x (rb i) (rs i) k := by
  unfold_abbrev_sides
  after_reads_simp
  pointwise
  rfl

theorem hv1 (c : Dev nD) (i : Fin 8192) (k : Fin 7168) : (V m c main_v1 : S8192x7168.Idx → EReal) (ix2 i k) = (inp m c).dr (rb i) (rs i) k := by
  unfold_abbrev_sides
  after_reads_simp
  pointwise
  rfl

theorem hv2 (c : Dev nD) (i : Fin 8192) (k : Fin 7168) : (V m c main_v2 : S8192x7168.Idx → EReal) (ix2 i k) = (inp m c).q (rb i) (rs i) k := by
  unfold_abbrev_sides
  after_reads_simp
  pointwise
  rfl

theorem hv3 (c : Dev nD) (i : Fin 8192) (k : Fin 7168) : (V m c main_v3 : S8192x7168.Idx → EReal) (ix2 i k) = (inp m c).k (rb i) (rs i) k := by
  unfold_abbrev_sides
  after_reads_simp
  pointwise
  rfl

theorem hv4 (c : Dev nD) (i : Fin 8192) (k : Fin 7168) : (V m c main_v4 : S8192x7168.Idx → EReal) (ix2 i k) = (inp m c).w (rb i) (rs i) k := by
  unfold_abbrev_sides
  after_reads_simp
  pointwise
  rfl

section
variable (c : Dev nD) {n : ℕ} (r : Fin 128) (k : Fin 7168)

theorem blk_x : (blk m c n).x (ix2 r k) = (inp m c).x (rb (row n r)) (rs (row n r)) k := hv0 m c _ _
theorem blk_dr : (blk m c n).dr (ix2 r k) = (inp m c).dr (rb (row n r)) (rs (row n r)) k := hv1 m c _ _
theorem blk_q : (blk m c n).q (ix2 r k) = (inp m c).q (rb (row n r)) (rs (row n r)) k := hv2 m c _ _
theorem blk_k : (blk m c n).k (ix2 r k) = (inp m c).k (rb (row n r)) (rs (row n r)) k := hv3 m c _ _
theorem blk_w : (blk m c n).w (ix2 r k) = (inp m c).w (rb (row n r)) (rs (row n r)) k := hv4 m c _ _
theorem blk_g : (blk m c n).g k = (inp m c).g k := congrFun (V_main_arg2 m c) (ix1 k)
theorem blk_R : (blk m c n).R r = (inp m c).r (rb (row n r)) (rs (row n r)) := by
  refine (congrFun (V_main_arg1 m c) _).trans ?_
  have e1 : (⟨n % 64 / 32, by omega⟩ : Fin 2) = rb (row n r) := Fin.ext (by simp only [rb, row]; omega)
  have e2 : (⟨128 * (n % 64 % 32) + r.val, by omega⟩ : Fin 4096) = rs (row n r) := Fin.ext (by simp only [rs, row]; omega)
  rw [e1, e2]
  rfl

theorem blk_dn : (blk m c n).dn r k = (inp m c).dN (rb (row n r)) (rs (row n r)) k := by
  unfold Blk.dn In.dN
  rw [blk_q, blk_k, blk_w]

theorem blk_p : (blk m c n).p r k = (inp m c).dN (rb (row n r)) (rs (row n r)) k * (inp m c).xh (rb (row n r)) (rs (row n r)) k := by
  unfold Blk.p In.xh
  rw [blk_dn, blk_x, blk_R]

/-- A sum over 7168 columns, by groups of 128. -/
theorem sum_cols (f : Fin 7168 → EReal) : ∑ j : Fin 56, ∑ l : Fin 128, f (Blk.col j l) = ∑ k, f k := by
  rw [← Fintype.sum_prod_type' (fun j l => f (Blk.col j l))]
  refine Fintype.sum_equiv (finProdFinEquiv (m := 56) (n := 128)) _ (fun i : Fin (56 * 128) => f i) (fun p => congrArg f (Fin.ext ?_))
  rw [finProdFinEquiv_apply_val]
  show 128 * p.1.val + p.2.val = p.2.val + 128 * p.1.val
  omega

/-- A sum over 64 blocks, by batches of 32. -/
theorem sum_blks (f : ℕ → EReal) : ∑ u ∈ Finset.range 64, f u = ∑ b : Fin 2, ∑ a : Fin 32, f (32 * b.val + a.val) := by
  rw [Finset.sum_range, ← Fintype.sum_prod_type' (fun (b : Fin 2) (a : Fin 32) => f (32 * b.val + a.val))]
  refine (Fintype.sum_equiv (finProdFinEquiv (m := 2) (n := 32)) _ (fun i : Fin (2 * 32) => f i.val) (fun p => congrArg f ?_)).symm
  rw [finProdFinEquiv_apply_val]
  omega

theorem acc_sum : ∑ l : Fin 128, (blk m c n).acc 56 r l
    = ∑ k, (inp m c).dN (rb (row n r)) (rs (row n r)) k * (inp m c).g k * (inp m c).xh (rb (row n r)) (rs (row n r)) k := by
  unfold Blk.acc
  rw [Finset.sum_comm, Finset.sum_range, ← sum_cols]
  refine Finset.sum_congr rfl fun j _ => Finset.sum_congr rfl fun l _ => ?_
  unfold Blk.term
  rw [dif_pos j.isLt, blk_p, blk_g]
  exact mul_right_comm _ _ _

theorem cols_eq : Ideal.ofBits .f32 1172307968#32 = ((7168 : ℝ) : EReal) := by
  simp [Ideal.ofBits, Ideal.ieee, -EReal.coe_mul]; norm_num

theorem blk_val : (blk m c n).val r k = (inp m c).dx (rb (row n r)) (rs (row n r)) k := by
  unfold Blk.val Blk.cr In.dx In.mean
  rw [acc_sum, blk_dn, blk_g, blk_x, blk_dr, blk_R, cols_eq, Ideal.div_coe (by norm_num)]
  unfold In.xh
  generalize (∑ k : Fin 7168, _ : EReal) = s
  have e : ∀ x R s q : EReal, x * (s * q * R) = x * R * (s * q) := fun x R s q => by rw [mul_comm (s * q) R, mul_assoc]
  rw [e]

/-- Block `n`'s rows are group `a` of batch `b`. -/
theorem row_eq (b : Fin 2) (a : Fin 32) (h : n = 32 * b.val + a.val) : rb (row n r) = b ∧ rs (row n r) = gs a r :=
  ⟨Fin.ext (by simp only [rb, row]; omega), Fin.ext (by simp only [rs, gs, row]; omega)⟩

theorem blk_ps (b : Fin 2) (a : Fin 32) (h : n = 32 * b.val + a.val) : (blk m c n).ps k = (inp m c).part b a k := by
  unfold Blk.ps In.part
  refine Finset.sum_congr rfl fun y _ => ?_
  rw [blk_p, (row_eq y b a h).1, (row_eq y b a h).2]

theorem blk_tcol (b : Fin 2) (a : Fin 32) (h : n = 32 * b.val + a.val) :
    (blk m c n).tcol k = (inp m c).cmax b a k * Ideal.ofBits .f32 991054117#32 := by
  have e : (fun y => (blk m c n).val y k) = fun y => (inp m c).dx b (gs a y) k := by
    funext y
    rw [blk_val, (row_eq y b a h).1, (row_eq y b a h).2]
  unfold Blk.tcol tmax In.cmax
  rw [show (fun y => FloatOps.absf (F := Ideal) (φ := .f32) ((blk m c n).val y k)) = fun y => FloatOps.absf (F := Ideal) (φ := .f32) ((inp m c).dx b (gs a y) k)
    from funext fun y => congrArg _ (congrFun e y)]

theorem blk_trow (l : Fin 56) : (blk m c n).trow r l = (inp m c).rmax (row n r) l * Ideal.ofBits .f32 991054117#32 := by
  have e : (fun y => (blk m c n).val r (Blk.col l y)) = fun y => (inp m c).dx (rb (row n r)) (rs (row n r)) (gl l y) := by
    funext y
    rw [blk_val]
    exact congrArg _ (Fin.ext (by simp only [Blk.col, gl]; omega))
  unfold Blk.trow tmax In.rmax
  rw [show (fun y => FloatOps.absf (F := Ideal) (φ := .f32) ((blk m c n).val r (Blk.col l y))) = fun y => FloatOps.absf (F := Ideal) (φ := .f32) ((inp m c).dx (rb (row n r)) (rs (row n r)) (gl l y))
    from funext fun y => congrArg _ (congrFun e y)]

end

/-- Row `i` of the flattened array is row `i % 128` of block `i / 128`. -/
theorem row_of (i : Fin 8192) : row (i.val / 128) ⟨i.val % 128, Nat.mod_lt _ (by decide)⟩ = i :=
  Fin.ext (by simp only [row]; omega)
theorem blk_of (i : Fin 8192) : i.val / 128 = 32 * (rb i).val + (ra i).val := by simp only [rb, ra]; omega

theorem val_of (c : Dev nD) (i : Fin 8192) (k : Fin 7168) :
    (blk m c (i.val / 128)).val ⟨i.val % 128, Nat.mod_lt _ (by decide)⟩ k = (inp m c).dx (rb i) (rs i) k := by
  rw [blk_val, row_of]
theorem trow_of (c : Dev nD) (i : Fin 8192) (l : Fin 56) :
    (blk m c (i.val / 128)).trow ⟨i.val % 128, Nat.mod_lt _ (by decide)⟩ l = (inp m c).rmax i l * Ideal.ofBits .f32 991054117#32 := by
  rw [blk_trow, row_of]
theorem tcol_of (c : Dev nD) (i : Fin 8192) (k : Fin 7168) :
    (blk m c (i.val / 128)).tcol k = (inp m c).cmax (rb i) (ra i) k * Ideal.ofBits .f32 991054117#32 :=
  blk_tcol m c _ _ _ (blk_of i)

/-- The kernel's results as the mathematics over its arguments, and its arguments unchanged. -/
def MPost (c : Dev nD) (mem : (ℓ : Loc nD τ sig) → Buf (Elt Ideal) ℓ) : Prop :=
  (mem ((c : Thread nD τ).loc main_v5_0) : S8192x7168.Idx → EReal) = (fun i => (inp m c).dx (rb (i 0)) (rs (i 0)) (i 1))
  ∧ (mem ((c : Thread nD τ).loc main_v5_1) : S7168.Idx → EReal) = (fun i => (inp m c).dgamma (i 0))
  ∧ (mem ((c : Thread nD τ).loc main_v5_2) : S2x32x7168.Idx → EReal) = (fun i => (inp m c).part (i 0) (i 1) (i 2))
  ∧ (mem ((c : Thread nD τ).loc main_v5_3) : S8192x7168.Idx → EReal) = (fun i => clip ((inp m c).dx (rb (i 0)) (rs (i 0)) (i 1) * invOf ((inp m c).rmax (i 0) (kg (i 1)) * Ideal.ofBits .f32 991054117#32)))
  ∧ (mem ((c : Thread nD τ).loc main_v5_4) : S8192x56.Idx → EReal) = (fun i => scaleOf ((inp m c).rmax (i 0) (i 1) * Ideal.ofBits .f32 991054117#32))
  ∧ (mem ((c : Thread nD τ).loc main_v5_5) : S8192x7168.Idx → EReal) = (fun i => clip ((inp m c).dx (rb (i 0)) (rs (i 0)) (i 1) * invOf ((inp m c).cmax (rb (i 0)) (ra (i 0)) (i 1) * Ideal.ofBits .f32 991054117#32)))
  ∧ (mem ((c : Thread nD τ).loc main_v5_6) : S2x32x7168.Idx → EReal) = (fun i => scaleOf ((inp m c).cmax (i 0) (i 1) (i 2) * Ideal.ofBits .f32 991054117#32))
  ∧ mem ((c : Thread nD τ).loc main_arg0) = m ((c : Thread nD τ).loc main_arg0)
  ∧ mem ((c : Thread nD τ).loc main_arg1) = m ((c : Thread nD τ).loc main_arg1)
  ∧ mem ((c : Thread nD τ).loc main_arg2) = m ((c : Thread nD τ).loc main_arg2)
  ∧ mem ((c : Thread nD τ).loc main_arg3) = m ((c : Thread nD τ).loc main_arg3)
  ∧ mem ((c : Thread nD τ).loc main_arg4) = m ((c : Thread nD τ).loc main_arg4)
  ∧ mem ((c : Thread nD τ).loc main_arg5) = m ((c : Thread nD τ).loc main_arg5)
  ∧ mem ((c : Thread nD τ).loc main_arg6) = m ((c : Thread nD τ).loc main_arg6)

theorem mrun : θ_run defs (onTc (τ := τ) (main (F := Ideal))) ⟨m, fun _ => 0, ρ⟩ fun r => ∀ c : Dev nD, MPost m c r.2.mem := by
  refine (θ_run defs _ _).mono (fun r h c => ?_) (run m ρ)
  obtain ⟨h0, h1, h2, h3, h4, h5, h6, hargs⟩ := h c
  refine ⟨h0.trans (funext fun i => ?_), h1.trans (funext fun i => ?_), h2.trans (funext fun i => ?_), h3.trans (funext fun i => ?_),
    h4.trans (funext fun i => ?_), h5.trans (funext fun i => ?_), h6.trans (funext fun i => ?_), hargs⟩
  · exact val_of m c (i 0) (i 1)
  · unfold dsum In.dgamma
    rw [sum_blks]
    exact Finset.sum_congr rfl fun b _ => Finset.sum_congr rfl fun a _ => blk_ps m c _ b a rfl
  · exact blk_ps m c (i 2) (i 0) (i 1) rfl
  · exact congrArg₂ (fun p q => clip (p * invOf q)) (val_of m c (i 0) (i 1)) (trow_of m c (i 0) (kg (i 1)))
  · exact congrArg scaleOf (trow_of m c (i 0) (i 1))
  · exact congrArg₂ (fun p q => clip (p * invOf q)) (val_of m c (i 0) (i 1)) (tcol_of m c (i 0) (i 1))
  · exact congrArg scaleOf (blk_tcol m c (i 2) (i 0) (i 1) rfl)
-- ==== Proof.RefHost.lean ====
/-
  THE REFERENCE'S HOST LINE read stage by stage: each array at an index, as the mathematics over the arguments.
-/
module

public import proofs.«01_k».proof.Defs
public import proofs.«01_k».proof.Proof.Gen.ReferenceIdeal.Frame
public import Idealize.ShloMosaic.Lib.StableHlo.RunRead
public import Idealize.ShloMosaic.Lib.Pointwise
public import Idealize.ShloMosaic.Lib.Tactic
public import Idealize.ShloMosaic.PureOps.Ideal.Laws
public import proofs.«01_k».proof.Proof.Math

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.Pointwise
open Cert.Norm
open Idealize.SL Idealize.SL.Sem
open Idealize.ShloMosaic.StableHlo

variable (m : (ℓ : Loc nD τ sig) → Buf (Elt Ideal) ℓ)

/-- The line of host operations, cut after its first `n`. -/
theorem cut (c : Dev nD) (n : ℕ) (b : Ref sig .tc) :
    V m c b = after ((hostOps0 : List (HloOp τ sig (Elt Ideal))).drop n) (upto hostOps0 (fun b => m (c, b)) n) b := by
  have h := after_append ((hostOps0 : List (HloOp τ sig (Elt Ideal))).take n) ((hostOps0 : List (HloOp τ sig (Elt Ideal))).drop n) (fun b => m (c, b))
  rw [List.take_append_drop] at h
  exact congrFun h _

/-- An array's entry. -/
abbrev ent {s : Shape} (x : s.Idx → EReal) (i : s.Idx) : EReal := x i

/-- The reference's arguments. -/
def inp (c : Dev nD) : In where
  x b s l := (m (c, Proc.devRef .tc main_arg0) : S2x4096x7168.Idx → EReal) (ix3 b s l)
  dr b s l := (m (c, Proc.devRef .tc main_arg3) : S2x4096x7168.Idx → EReal) (ix3 b s l)
  q b s l := (m (c, Proc.devRef .tc main_arg4) : S2x4096x7168.Idx → EReal) (ix3 b s l)
  k b s l := (m (c, Proc.devRef .tc main_arg5) : S2x4096x7168.Idx → EReal) (ix3 b s l)
  w b s l := (m (c, Proc.devRef .tc main_arg6) : S2x4096x7168.Idx → EReal) (ix3 b s l)
  r b s := (m (c, Proc.devRef .tc main_arg1) : S2x4096.Idx → EReal) (ix2 b s)
  g l := (m (c, Proc.devRef .tc main_arg2) : S7168.Idx → EReal) (ix1 l)

theorem v24 (c : Dev nD) (b : Fin 2) (s : Fin 4096) (k : Fin 7168) : (V m c main_v24 : S2x4096x7168.Idx → EReal) (ix3 b s k) = (inp m c).dx b s k := by
  unfold_abbrev_sides
  after_reads_simp
  pointwise
  rfl

theorem v22 (c : Dev nD) (b : Fin 2) (s : Fin 4096) (k : Fin 7168) : (V m c main_v22 : S2x4096x7168.Idx → EReal) (ix3 b s k) = (inp m c).dN b s k * (inp m c).xh b s k := by
  unfold_abbrev_sides
  after_reads_simp
  pointwise
  rfl

theorem scale_at {s : Shape} (h : _) (x : s.Idx → EReal) (cst two one zero : S_.Idx → EReal) (C T O Z : EReal)
    (hC : ∀ q, cst q = C) (hT : ∀ q, two q = T) (hO : ∀ q, one q = O) (hZ : ∀ q, zero q = Z) (j : s.Idx) :
    (select (cmpf (F := Ideal) (φ := .f32) CmpFPredicate.oeq x (broadcastInDim s ![] h zero)) (broadcastInDim s ![] h one)
      (Host.powf (F := Ideal) (φ := .f32) (broadcastInDim s ![] h two)
        (addf (F := Ideal) (φ := .f32) (Host.floor (F := Ideal) (φ := .f32) (Host.divf (F := Ideal) (φ := .f32) (Host.log (F := Ideal) (φ := .f32) (mulf (F := Ideal) (φ := .f32) x (broadcastInDim s ![] h cst)))
              (Host.log (F := Ideal) (φ := .f32) (broadcastInDim s ![] h two)))) (broadcastInDim s ![] h one))) : s.Idx → EReal) j
      = rscale C T O Z (x j) := by
  dsimp only [select, cmpf, broadcastInDim, Host.powf, addf, Host.floor, Host.divf, Host.log, mulf]
  rw [hC, hT, hO, hZ]
  rfl

theorem inv_at {s : Shape} (h : _) (x : s.Idx → EReal) (cst two one zero : S_.Idx → EReal) (C T O Z : EReal)
    (hC : ∀ q, cst q = C) (hT : ∀ q, two q = T) (hO : ∀ q, one q = O) (hZ : ∀ q, zero q = Z) (j : s.Idx) :
    (select (cmpf (F := Ideal) (φ := .f32) CmpFPredicate.oeq x (broadcastInDim s ![] h zero)) (broadcastInDim s ![] h one)
      (Host.powf (F := Ideal) (φ := .f32) (broadcastInDim s ![] h two)
        (Host.negf (F := Ideal) (φ := .f32) (addf (F := Ideal) (φ := .f32) (Host.floor (F := Ideal) (φ := .f32) (Host.divf (F := Ideal) (φ := .f32) (Host.log (F := Ideal) (φ := .f32) (mulf (F := Ideal) (φ := .f32) x (broadcastInDim s ![] h cst)))
              (Host.log (F := Ideal) (φ := .f32) (broadcastInDim s ![] h two)))) (broadcastInDim s ![] h one)))) : s.Idx → EReal) j
      = rinv C T O Z (x j) := by
  dsimp only [select, cmpf, broadcastInDim, Host.powf, addf, Host.floor, Host.divf, Host.log, mulf, Host.negf]
  rw [hC, hT, hO, hZ]
  rfl

theorem v26 (c : Dev nD) (b : Fin 2) (a : Fin 32) (k : Fin 7168) : (V m c main_v26 : S2x32x7168.Idx → EReal) (ix3 b a k) = ∑ x : Fin 128, ent (V m c main_v22 : S2x4096x7168.Idx → EReal) (ix3 b (gs a x) k) := by
  rw [cut m c 27 main_v26, cut m c 27 main_v22]
  generalize upto _ _ _ = W
  after_reads_simp
  pointwise
  rfl

/-- A reduction over the first two axes of three: the initial value plus the double sum. -/
theorem sum01 {a b n : ℕ} {t : Shape} (h : (⟨3, ![a, b, n]⟩ : Shape).ReducesTo [0, 1] t) (x : (⟨3, ![a, b, n]⟩ : Shape).Idx → EReal)
    (z : EReal) (j : t.Idx) (k : Fin n) (hd : ∀ i, h.drop i = j ↔ i 2 = k) :
    Ideal.hostReduceAdd h x z j = z + ∑ p : Fin a, ∑ q : Fin b, x (ix3 p q k) := by
  unfold Ideal.hostReduceAdd
  rw [← Finset.sum_product', Finset.univ_product_univ]
  congr 1
  refine Finset.sum_filter_eq_sum_of_fiber _ (fun p : Fin a × Fin b => ix3 p.1 p.2 k) ?_ (fun i => ?_) x
  · intro p q e
    exact Prod.ext (congrFun e 0) (congrFun e 1)
  · rw [hd]
    constructor
    · intro e
      refine ⟨(i 0, i 1), ?_⟩
      subst e
      funext d
      match d with
      | ⟨0, _⟩ => rfl
      | ⟨1, _⟩ => rfl
      | ⟨2, _⟩ => rfl
    · rintro ⟨p, rfl⟩
      rfl

theorem v27 (c : Dev nD) (k : Fin 7168) : (V m c main_v27 : S7168.Idx → EReal) (ix1 k) = ∑ b : Fin 2, ∑ a : Fin 32, ent (V m c main_v26 : S2x32x7168.Idx → EReal) (ix3 b a k) := by
  rw [cut m c 30 main_v27, cut m c 30 main_v26]
  generalize upto _ _ _ = W
  after_reads_simp
  generalize (W (Proc.tc.devRef main_v26) : S2x32x7168.Idx → EReal) = x
  refine (sum01 reducesTo_S2x32x7168_S7168_d0_1 x _ (ix1 k) k (fun i => ?_)).trans ?_
  · constructor
    · intro e
      exact congrFun e 0
    · intro e
      funext d
      match d with
      | ⟨0, _⟩ => exact e
  · pointwise

theorem v31 (c : Dev nD) (i : Fin 8192) (l : Fin 56) (j : Fin 1) : (V m c main_v31 : S8192x56x1.Idx → EReal) (ix3 i l j) = Finset.fold max (Ideal.ofBits .f32 4286578688#32) (fun y => FloatOps.absf (F := Ideal) (φ := .f32) (ent (V m c main_v24 : S2x4096x7168.Idx → EReal) (ix3 (rb i) (rs i) (gl l y)))) Finset.univ := by
  rw [cut m c 27 main_v31, cut m c 27 main_v24]
  generalize upto _ _ _ = W
  after_reads_simp
  pointwise
  rfl

theorem v58 (c : Dev nD) (b : Fin 2) (a : Fin 32) (j : Fin 1) (k : Fin 7168) : (V m c main_v58 : S2x32x1x7168.Idx → EReal) (ix4 b a j k) = Finset.fold max (Ideal.ofBits .f32 4286578688#32) (fun y => FloatOps.absf (F := Ideal) (φ := .f32) (ent (V m c main_v24 : S2x4096x7168.Idx → EReal) (ix3 b (gs a y) k))) Finset.univ := by
  rw [cut m c 56 main_v58, cut m c 56 main_v24]
  generalize upto _ _ _ = W
  after_reads_simp
  pointwise
  rfl

theorem v28 (c : Dev nD) (i : Fin 8192) (l : Fin 56) (j : Fin 128) : (V m c main_v28 : S8192x56x128.Idx → EReal) (ix3 i l j) = ent (V m c main_v24 : S2x4096x7168.Idx → EReal) (ix3 (rb i) (rs i) (gl l j)) := by
  rw [cut m c 27 main_v28, cut m c 27 main_v24]
  generalize upto _ _ _ = W
  after_reads_simp
  pointwise
  rfl

theorem v55 (c : Dev nD) (b : Fin 2) (a : Fin 32) (j : Fin 128) (k : Fin 7168) : (V m c main_v55 : S2x32x128x7168.Idx → EReal) (ix4 b a j k) = ent (V m c main_v24 : S2x4096x7168.Idx → EReal) (ix3 b (gs a j) k) := by
  rw [cut m c 67 main_v55, cut m c 67 main_v24]
  generalize upto _ _ _ = W
  after_reads_simp
  pointwise
  rfl

theorem v82 (c : Dev nD) (i : Fin 8192) (k : Fin 7168) : (V m c main_v82 : S8192x7168.Idx → EReal) (ix2 i k) = qclip (ent (V m c main_v28 : S8192x56x128.Idx → EReal) (ix3 i (kg k) ⟨k.val % 128, by omega⟩) * ent (V m c main_v48 : S8192x56x1.Idx → EReal) (ix3 i (kg k) 0)) := by
  rw [cut m c 59 main_v82, cut m c 59 main_v28, cut m c 59 main_v48]
  generalize upto _ _ _ = W
  after_reads_simp
  pointwise
  rfl

theorem v83 (c : Dev nD) (i : Fin 8192) (l : Fin 56) : (V m c main_v83 : S8192x56.Idx → EReal) (ix2 i l) = ent (V m c main_v45 : S8192x56x1.Idx → EReal) (ix3 i l 0) := by
  rw [cut m c 102 main_v83, cut m c 102 main_v45]
  generalize upto _ _ _ = W
  after_reads_simp
  pointwise

theorem v84 (c : Dev nD) (i : Fin 8192) (k : Fin 7168) : (V m c main_v84 : S8192x7168.Idx → EReal) (ix2 i k) = qclip (ent (V m c main_v55 : S2x32x128x7168.Idx → EReal) (ix4 (rb i) (ra i) ⟨i.val % 128, by omega⟩ k) * ent (V m c main_v75 : S2x32x1x7168.Idx → EReal) (ix4 (rb i) (ra i) 0 k)) := by
  rw [cut m c 94 main_v84, cut m c 94 main_v55, cut m c 94 main_v75]
  generalize upto _ _ _ = W
  after_reads_simp
  pointwise
  rfl

theorem v85 (c : Dev nD) (b : Fin 2) (a : Fin 32) (k : Fin 7168) : (V m c main_v85 : S2x32x7168.Idx → EReal) (ix3 b a k) = ent (V m c main_v72 : S2x32x1x7168.Idx → EReal) (ix4 b a 0 k) := by
  rw [cut m c 103 main_v85, cut m c 103 main_v72]
  generalize upto _ _ _ = W
  after_reads_simp
  pointwise

theorem v87 (c : Dev nD) (i : Fin 8192) (k : Fin 7168) : (V m c main_v87 : S8192x7168.Idx → EReal) (ix2 i k) = ent (V m c main_v24 : S2x4096x7168.Idx → EReal) (ix3 (rb i) (rs i) k) := by
  rw [cut m c 104 main_v87, cut m c 104 main_v24]
  generalize upto _ _ _ = W
  after_reads_simp
  pointwise
  rfl

theorem v45 (c : Dev nD) (i : Fin 8192) (l : Fin 56) (j : Fin 1) : (V m c main_v45 : S8192x56x1.Idx → EReal) (ix3 i l j) = qscale (ent (V m c main_v31 : S8192x56x1.Idx → EReal) (ix3 i l j)) := by
  rw [cut m c 37 main_v45, cut m c 37 main_v31]
  generalize upto _ _ _ = W
  after_reads_simp
  exact scale_at _ _ _ _ _ _ _ _ _ _ (fun _ => rfl) (fun _ => rfl) (fun _ => rfl) (fun _ => rfl) _

theorem v48 (c : Dev nD) (i : Fin 8192) (l : Fin 56) (j : Fin 1) : (V m c main_v48 : S8192x56x1.Idx → EReal) (ix3 i l j) = qinv (ent (V m c main_v31 : S8192x56x1.Idx → EReal) (ix3 i l j)) := by
  rw [cut m c 37 main_v48, cut m c 37 main_v31]
  generalize upto _ _ _ = W
  after_reads_simp
  exact inv_at _ _ _ _ _ _ _ _ _ _ (fun _ => rfl) (fun _ => rfl) (fun _ => rfl) (fun _ => rfl) _

theorem v72 (c : Dev nD) (b : Fin 2) (a : Fin 32) (j : Fin 1) (k : Fin 7168) : (V m c main_v72 : S2x32x1x7168.Idx → EReal) (ix4 b a j k) = qscale (ent (V m c main_v58 : S2x32x1x7168.Idx → EReal) (ix4 b a j k)) := by
  rw [cut m c 72 main_v72, cut m c 72 main_v58]
  generalize upto _ _ _ = W
  after_reads_simp
  exact scale_at _ _ _ _ _ _ _ _ _ _ (fun _ => rfl) (fun _ => rfl) (fun _ => rfl) (fun _ => rfl) _

theorem v75 (c : Dev nD) (b : Fin 2) (a : Fin 32) (j : Fin 1) (k : Fin 7168) : (V m c main_v75 : S2x32x1x7168.Idx → EReal) (ix4 b a j k) = qinv (ent (V m c main_v58 : S2x32x1x7168.Idx → EReal) (ix4 b a j k)) := by
  rw [cut m c 72 main_v75, cut m c 72 main_v58]
  generalize upto _ _ _ = W
  after_reads_simp
  exact inv_at _ _ _ _ _ _ _ _ _ _ (fun _ => rfl) (fun _ => rfl) (fun _ => rfl) (fun _ => rfl) _

theorem A26 (c : Dev nD) (b : Fin 2) (a : Fin 32) (k : Fin 7168) : (V m c main_v26 : S2x32x7168.Idx → EReal) (ix3 b a k) = (inp m c).part b a k := by
  rw [v26]
  exact Finset.sum_congr (M := EReal) rfl fun y _ => v22 m c b (gs a y) k

theorem A27 (c : Dev nD) (k : Fin 7168) : (V m c main_v27 : S7168.Idx → EReal) (ix1 k) = (inp m c).dgamma k := by
  rw [v27]
  exact Finset.sum_congr (M := EReal) rfl fun b _ => Finset.sum_congr (M := EReal) rfl fun a _ => A26 m c b a k

theorem A87 (c : Dev nD) (i : Fin 8192) (k : Fin 7168) : (V m c main_v87 : S8192x7168.Idx → EReal) (ix2 i k) = (inp m c).dx (rb i) (rs i) k :=
  (v87 m c i k).trans (v24 m c _ _ _)

theorem A31 (c : Dev nD) (i : Fin 8192) (l : Fin 56) (j : Fin 1) : (V m c main_v31 : S8192x56x1.Idx → EReal) (ix3 i l j) = (inp m c).rmax i l := by
  rw [v31]
  exact congrArg (fun f : Fin 128 → EReal => Finset.fold (max : EReal → EReal → EReal) (Ideal.ofBits .f32 4286578688#32) f Finset.univ) (funext fun y => congrArg (FloatOps.absf (F := Ideal) (φ := .f32)) (v24 m c _ _ _))

theorem A58 (c : Dev nD) (b : Fin 2) (a : Fin 32) (j : Fin 1) (k : Fin 7168) : (V m c main_v58 : S2x32x1x7168.Idx → EReal) (ix4 b a j k) = (inp m c).cmax b a k := by
  rw [v58]
  exact congrArg (fun f : Fin 128 → EReal => Finset.fold (max : EReal → EReal → EReal) (Ideal.ofBits .f32 4286578688#32) f Finset.univ) (funext fun y => congrArg (FloatOps.absf (F := Ideal) (φ := .f32)) (v24 m c _ _ _))

theorem A83 (c : Dev nD) (i : Fin 8192) (l : Fin 56) : (V m c main_v83 : S8192x56.Idx → EReal) (ix2 i l) = qscale ((inp m c).rmax i l) :=
  (v83 m c i l).trans ((v45 m c i l 0).trans (congrArg qscale (A31 m c i l 0)))

theorem A85 (c : Dev nD) (b : Fin 2) (a : Fin 32) (k : Fin 7168) : (V m c main_v85 : S2x32x7168.Idx → EReal) (ix3 b a k) = qscale ((inp m c).cmax b a k) :=
  (v85 m c b a k).trans ((v72 m c b a 0 k).trans (congrArg qscale (A58 m c b a 0 k)))

theorem A82 (c : Dev nD) (i : Fin 8192) (k : Fin 7168) :
    (V m c main_v82 : S8192x7168.Idx → EReal) (ix2 i k) = qclip ((inp m c).dx (rb i) (rs i) k * qinv ((inp m c).rmax i (kg k))) := by
  rw [v82]
  dsimp only [ent]
  have e : gl (kg k) ⟨k.val % 128, by omega⟩ = k := Fin.ext (by simp only [gl, kg]; omega)
  have h := (v28 m c i (kg k) ⟨k.val % 128, by omega⟩).trans (v24 m c _ _ _)
  rw [e] at h
  exact congrArg qclip (congrArg₂ (fun p q : EReal => p * q) h ((v48 m c i (kg k) 0).trans (congrArg qinv (A31 m c i (kg k) 0))))

theorem A84 (c : Dev nD) (i : Fin 8192) (k : Fin 7168) :
    (V m c main_v84 : S8192x7168.Idx → EReal) (ix2 i k) = qclip ((inp m c).dx (rb i) (rs i) k * qinv ((inp m c).cmax (rb i) (ra i) k)) := by
  rw [v84]
  dsimp only [ent]
  have e : gs (ra i) ⟨i.val % 128, by omega⟩ = rs i := Fin.ext (by simp only [gs, ra, rs]; omega)
  have h := (v55 m c (rb i) (ra i) ⟨i.val % 128, by omega⟩ k).trans (v24 m c _ _ _)
  rw [e] at h
  exact congrArg qclip (congrArg₂ (fun p q : EReal => p * q) h ((v75 m c (rb i) (ra i) 0 k).trans (congrArg qinv (A58 m c (rb i) (ra i) 0 k))))

end Cert.ReferenceIdeal.Val

end
-- ==== Proof.RefRun.lean ====
/-
  THE REFERENCE'S RUN, read: each result array as the mathematics over the arguments.
-/
module

public import proofs.«01_k».proof.Defs
public import proofs.«01_k».proof.Proof.Gen.ReferenceIdeal.Frame
public import Idealize.ShloMosaic.Lib.StableHlo.RunRead
public import Idealize.ShloMosaic.Lib.Pointwise
public import Idealize.ShloMosaic.Lib.Tactic
public import Idealize.ShloMosaic.PureOps.Ideal.Laws
public import proofs.«01_k».proof.Proof.RefHost
public import Idealize.ShloMosaic.Lib.Pipeline.ValueKit

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.Pointwise
open Cert.Norm
open Idealize.SL Idealize.SL.Sem
open Idealize.ShloMosaic.StableHlo

variable (m : (ℓ : Loc nD τ sig) → Buf (Elt Ideal) ℓ)

variable (ρ : Dev nD → PrngReg)

/-- Every window's block index at the one point. -/
theorem idx : ∀ t : Fin cfg0.N, win0_0.index t = ![0, 0] ∧ win0_1.index t = ![0, 0] :=
  (by decide +kernel : ∀ t : Fin grid0.N, _)

theorem iblk0 (c : Dev nD) : iblk m c 0 t0_0 = V m c main_v82 := by
  unfold iblk
  generalize V m c (Pipeline.arrRef spec0 0) = x
  blk_ext! [idx t0_0]

theorem iblk1 (c : Dev nD) : iblk m c 1 t0_0 = V m c main_v84 := by
  unfold iblk
  generalize V m c (Pipeline.arrRef spec0 1) = x
  blk_ext! [idx t0_0]

theorem eta1 {A : ℕ} (y : (⟨1, ![A]⟩ : Shape).Idx) : y = ix1 (y 0) := by
  funext a
  match a with
  | ⟨0, _⟩ => rfl
theorem eta2 {A B : ℕ} (y : (⟨2, ![A, B]⟩ : Shape).Idx) : y = ix2 (y 0) (y 1) := by
  funext a
  match a with
  | ⟨0, _⟩ => rfl
  | ⟨1, _⟩ => rfl
theorem eta3 {A B C : ℕ} (y : (⟨3, ![A, B, C]⟩ : Shape).Idx) : y = ix3 (y 0) (y 1) (y 2) := by
  funext a
  match a with
  | ⟨0, _⟩ => rfl
  | ⟨1, _⟩ => rfl
  | ⟨2, _⟩ => rfl

theorem out2 (x y : Vec Ideal S8192x7168 .f32) : (out0_2 x y : S8192x7168.Idx → EReal) = (x : S8192x7168.Idx → EReal) := by
  frame_out
  funext i
  rw [eta2 i]
  pointwise [k0_pay1]
theorem out3 (x y : Vec Ideal S8192x7168 .f32) : (out0_3 x y : S8192x7168.Idx → EReal) = (y : S8192x7168.Idx → EReal) := by
  frame_out
  funext i
  rw [eta2 i]
  pointwise [k0_pay2]

set_option backward.isDefEq.respectTransparency.types false in
/-- What the launch leaves in its two outputs: the two inputs, element by element. -/
theorem arr2 (c : Dev nD) : (dats m 0 c).arrAt 2 cfg0.N = (V m c main_v82 : S8192x7168.Idx → EReal) := by
  refine (dats m 0 c).arrAt_eq_of_after_last 2 t0_0 (by decide +kernel) _ (fun j => ?_)
  blk_simp
  rw [after0_2]
  rw [iblk0, iblk1]
  exact congrFun (out2 _ _) j

set_option backward.isDefEq.respectTransparency.types false in
theorem arr3 (c : Dev nD) : (dats m 0 c).arrAt 3 cfg0.N = (V m c main_v84 : S8192x7168.Idx → EReal) := by
  refine (dats m 0 c).arrAt_eq_of_after_last 3 t0_0 (by decide +kernel) _ (fun j => ?_)
  blk_simp
  rw [after0_3]
  rw [iblk0, iblk1]
  exact congrFun (out3 _ _) j

theorem F82 (c : Dev nD) : (V m c main_v82 : S8192x7168.Idx → EReal) = fun i => qclip ((inp m c).dx (rb (i 0)) (rs (i 0)) (i 1) * qinv ((inp m c).rmax (i 0) (kg (i 1)))) := by
  funext i
  have h := A82 m c (i 0) (i 1)
  generalize (V m c main_v82 : S8192x7168.Idx → EReal) = x at h ⊢
  exact (congrArg x (eta2 i)).trans h

theorem G82 (c : Dev nD) : (dats m 0 c).arrAt 2 cfg0.N = (fun i => qclip ((inp m c).dx (rb (i 0)) (rs (i 0)) (i 1) * qinv ((inp m c).rmax (i 0) (kg (i 1)))) : S8192x7168.Idx → EReal) :=
  (arr2 m c).trans (F82 m c)

theorem F84 (c : Dev nD) : (V m c main_v84 : S8192x7168.Idx → EReal) = fun i => qclip ((inp m c).dx (rb (i 0)) (rs (i 0)) (i 1) * qinv ((inp m c).cmax (rb (i 0)) (ra (i 0)) (i 1))) := by
  funext i
  have h := A84 m c (i 0) (i 1)
  generalize (V m c main_v84 : S8192x7168.Idx → EReal) = x at h ⊢
  exact (congrArg x (eta2 i)).trans h

theorem G84 (c : Dev nD) : (dats m 0 c).arrAt 3 cfg0.N = (fun i => qclip ((inp m c).dx (rb (i 0)) (rs (i 0)) (i 1) * qinv ((inp m c).cmax (rb (i 0)) (ra (i 0)) (i 1))) : S8192x7168.Idx → EReal) :=
  (arr3 m c).trans (F84 m c)

/-- The reference's results, as the mathematics over its arguments, and its arguments unchanged. -/
def Post (c : Dev nD) (mem : (ℓ : Loc nD τ sig) → Buf (Elt Ideal) ℓ) : Prop :=
  (mem ((c : Thread nD τ).loc main_v87) : S8192x7168.Idx → EReal) = (fun i => (inp m c).dx (rb (i 0)) (rs (i 0)) (i 1))
  ∧ (mem ((c : Thread nD τ).loc main_v27) : S7168.Idx → EReal) = (fun i => (inp m c).dgamma (i 0))
  ∧ (mem ((c : Thread nD τ).loc main_v26) : S2x32x7168.Idx → EReal) = (fun i => (inp m c).part (i 0) (i 1) (i 2))
  ∧ (mem ((c : Thread nD τ).loc main_v88_0) : S8192x7168.Idx → EReal) = (fun i => qclip ((inp m c).dx (rb (i 0)) (rs (i 0)) (i 1) * qinv ((inp m c).rmax (i 0) (kg (i 1)))))
  ∧ (mem ((c : Thread nD τ).loc main_v83) : S8192x56.Idx → EReal) = (fun i => qscale ((inp m c).rmax (i 0) (i 1)))
  ∧ (mem ((c : Thread nD τ).loc main_v88_1) : S8192x7168.Idx → EReal) = (fun i => qclip ((inp m c).dx (rb (i 0)) (rs (i 0)) (i 1) * qinv ((inp m c).cmax (rb (i 0)) (ra (i 0)) (i 1))))
  ∧ (mem ((c : Thread nD τ).loc main_v85) : S2x32x7168.Idx → EReal) = (fun i => qscale ((inp m c).cmax (i 0) (i 1) (i 2)))
  ∧ mem ((c : Thread nD τ).loc main_arg0) = m ((c : Thread nD τ).loc main_arg0)
  ∧ mem ((c : Thread nD τ).loc main_arg1) = m ((c : Thread nD τ).loc main_arg1)
  ∧ mem ((c : Thread nD τ).loc main_arg2) = m ((c : Thread nD τ).loc main_arg2)
  ∧ mem ((c : Thread nD τ).loc main_arg3) = m ((c : Thread nD τ).loc main_arg3)
  ∧ mem ((c : Thread nD τ).loc main_arg4) = m ((c : Thread nD τ).loc main_arg4)
  ∧ mem ((c : Thread nD τ).loc main_arg5) = m ((c : Thread nD τ).loc main_arg5)
  ∧ mem ((c : Thread nD τ).loc main_arg6) = m ((c : Thread nD τ).loc main_arg6)

set_option maxHeartbeats 4000000 in
set_option backward.isDefEq.respectTransparency.types false in
theorem run : θ_run defs (onTc (τ := τ) (main (F := Ideal))) ⟨m, fun _ => 0, ρ⟩ fun r => ∀ c : Dev nD, Post m c r.2.mem := by
  refine (θ_run defs _ _).mono (fun r h c => ?_) (run_main m ρ)
  refine ⟨?_, ?_, ?_, ?_, ?_, ?_, ?_, ?_, ?_, ?_, ?_, ?_, ?_, ?_⟩
  · have e := (h c).2 main_v87 (Pipeline.mem_restRefs_of main_v87 (by decide) (by decide))
    have q : ∀ i, _ := fun i : S8192x7168.Idx => A87 m c (i 0) (i 1)
    generalize V m c main_v87 = x at e q
    refine e.trans (funext fun i => ?_)
    exact (congrArg (x : S8192x7168.Idx → EReal) (eta2 i)).trans (q i)
  · have e := (h c).2 main_v27 (Pipeline.mem_restRefs_of main_v27 (by decide) (by decide))
    have q : ∀ i, _ := fun i : S7168.Idx => A27 m c (i 0)
    generalize V m c main_v27 = x at e q
    refine e.trans (funext fun i => ?_)
    exact (congrArg (x : S7168.Idx → EReal) (eta1 i)).trans (q i)
  · have e := (h c).2 main_v26 (Pipeline.mem_restRefs_of main_v26 (by decide) (by decide))
    have q : ∀ i, _ := fun i : S2x32x7168.Idx => A26 m c (i 0) (i 1) (i 2)
    generalize V m c main_v26 = x at e q
    refine e.trans (funext fun i => ?_)
    exact (congrArg (x : S2x32x7168.Idx → EReal) (eta3 i)).trans (q i)
  · exact ((h c).1 2).trans (G82 m c)
  · have e := (h c).2 main_v83 (Pipeline.mem_restRefs_of main_v83 (by decide) (by decide))
    have q : ∀ i, _ := fun i : S8192x56.Idx => A83 m c (i 0) (i 1)
    generalize V m c main_v83 = x at e q
    refine e.trans (funext fun i => ?_)
    exact (congrArg (x : S8192x56.Idx → EReal) (eta2 i)).trans (q i)
  · exact ((h c).1 3).trans (G84 m c)
  · have e := (h c).2 main_v85 (Pipeline.mem_restRefs_of main_v85 (by decide) (by decide))
    have q : ∀ i, _ := fun i : S2x32x7168.Idx => A85 m c (i 0) (i 1) (i 2)
    generalize V m c main_v85 = x at e q
    refine e.trans (funext fun i => ?_)
    exact (congrArg (x : S2x32x7168.Idx → EReal) (eta3 i)).trans (q i)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)

end Cert.ReferenceIdeal.Val

end
-- ==== Proof.Algebraic.lean ====
/-
  THE VALUE CLAIM: the kernel's results and the reference's, the same functions of the same arguments where the mask is set.
-/
module

public import proofs.«01_k».proof.Defs
public import proofs.«01_k».proof.Proof.Math
public import proofs.«01_k».proof.Proof.Mask
public import proofs.«01_k».proof.Proof.Expo
public import proofs.«01_k».proof.Proof.KerMath
public import proofs.«01_k».proof.Proof.RefRun

@[expose] public section

set_option maxRecDepth 16384

noncomputable section

namespace Cert.Join

open Idealize.ShloMosaic Idealize.ShloMosaic.TcCoe
open Cert.Norm Cert.KernelIdeal.Val
open Idealize.SL Idealize.SL.Sem

/-- The seven results over the arguments. -/
def w0 (A : In) : (⟨2, ![8192, 7168]⟩ : Shape).Idx → EReal := fun i => A.dx (rb (i 0)) (rs (i 0)) (i 1)
def w1 (A : In) : (⟨1, ![7168]⟩ : Shape).Idx → EReal := fun i => A.dgamma (i 0)
def w2 (A : In) : (⟨3, ![2, 32, 7168]⟩ : Shape).Idx → EReal := fun i => A.part (i 0) (i 1) (i 2)
def w3 (A : In) : (⟨2, ![8192, 7168]⟩ : Shape).Idx → EReal := fun i => qclip (A.dx (rb (i 0)) (rs (i 0)) (i 1) * qinv (A.rmax (i 0) (kg (i 1))))
def w4 (A : In) : (⟨2, ![8192, 56]⟩ : Shape).Idx → EReal := fun i => qscale (A.rmax (i 0) (i 1))
def w5 (A : In) : (⟨2, ![8192, 7168]⟩ : Shape).Idx → EReal := fun i => qclip (A.dx (rb (i 0)) (rs (i 0)) (i 1) * qinv (A.cmax (rb (i 0)) (ra (i 0)) (i 1)))
def w6 (A : In) : (⟨3, ![2, 32, 7168]⟩ : Shape).Idx → EReal := fun i => qscale (A.cmax (i 0) (i 1) (i 2))

theorem clip_eq (v : EReal) : clip v = qclip v := by
  unfold clip qclip
  rw [min_comm, max_comm]

theorem eta2 {A B : ℕ} (y : (⟨2, ![A, B]⟩ : Shape).Idx) : y = ix2 (y 0) (y 1) := by
  funext d
  match d with
  | ⟨0, _⟩ => rfl
  | ⟨1, _⟩ => rfl

theorem eta3 {A B C : ℕ} (y : (⟨3, ![A, B, C]⟩ : Shape).Idx) : y = ix3 (y 0) (y 1) (y 2) := by
  funext d
  match d with
  | ⟨0, _⟩ => rfl
  | ⟨1, _⟩ => rfl
  | ⟨2, _⟩ => rfl

section Masks
variable [Cert.On_in_range.Facts]
variable (a0 : FVec Ideal Cert.On_in_range.S2x4096x7168 .bf16) (a1 : FVec Ideal Cert.On_in_range.S2x4096 .f32) (a2 : FVec Ideal Cert.On_in_range.S7168 .f32)
  (a3 a4 a5 a6 : FVec Ideal Cert.On_in_range.S2x4096x7168 .bf16)
variable {A : In} (hA : A = Cert.On_in_range.arr a0 a1 a2 a3 a4 a5 a6)
include hA

/-- Where the mask is set, the kernel's scale of the group is the reference's, and so is the code. -/
theorem m3 (i : (⟨2, ![8192, 7168]⟩ : Shape).Idx) (h : (Cert.On_in_range.fn (F := Ideal) a0 a1 a2 a3 a4 a5 a6).2.2.2.1 i = 1#1) :
    clip (A.dx (rb (i 0)) (rs (i 0)) (i 1) * invOf (A.rmax (i 0) (kg (i 1)) * Ideal.ofBits .f32 991054117#32)) = w3 A i := by
  subst hA
  have n := Cert.On_in_range.rowc a0 a1 a2 a3 a4 a5 a6 (i 0) (i 1) ((congrArg (Cert.On_in_range.fn (F := Ideal) a0 a1 a2 a3 a4 a5 a6).2.2.2.1 (eta2 i).symm).trans h)
  unfold w3
  rw [(scale_eq n).2, clip_eq]

theorem m4 (i : (⟨2, ![8192, 56]⟩ : Shape).Idx) (h : (Cert.On_in_range.fn (F := Ideal) a0 a1 a2 a3 a4 a5 a6).2.2.2.2.1 i = 1#1) :
    scaleOf (A.rmax (i 0) (i 1) * Ideal.ofBits .f32 991054117#32) = w4 A i := by
  subst hA
  have n := Cert.On_in_range.row a0 a1 a2 a3 a4 a5 a6 (i 0) (i 1) ((congrArg (Cert.On_in_range.fn (F := Ideal) a0 a1 a2 a3 a4 a5 a6).2.2.2.2.1 (eta2 i).symm).trans h)
  exact (scale_eq n).1

theorem m5 (i : (⟨2, ![8192, 7168]⟩ : Shape).Idx) (h : (Cert.On_in_range.fn (F := Ideal) a0 a1 a2 a3 a4 a5 a6).2.2.2.2.2.1 i = 1#1) :
    clip (A.dx (rb (i 0)) (rs (i 0)) (i 1) * invOf (A.cmax (rb (i 0)) (ra (i 0)) (i 1) * Ideal.ofBits .f32 991054117#32)) = w5 A i := by
  subst hA
  have n := Cert.On_in_range.colc a0 a1 a2 a3 a4 a5 a6 (i 0) (i 1) ((congrArg (Cert.On_in_range.fn (F := Ideal) a0 a1 a2 a3 a4 a5 a6).2.2.2.2.2.1 (eta2 i).symm).trans h)
  unfold w5
  rw [(scale_eq n).2, clip_eq]

theorem m6 (i : (⟨3, ![2, 32, 7168]⟩ : Shape).Idx) (h : (Cert.On_in_range.fn (F := Ideal) a0 a1 a2 a3 a4 a5 a6).2.2.2.2.2.2 i = 1#1) :
    scaleOf (A.cmax (i 0) (i 1) (i 2) * Ideal.ofBits .f32 991054117#32) = w6 A i := by
  subst hA
  have n := Cert.On_in_range.col a0 a1 a2 a3 a4 a5 a6 (i 0) (i 1) (i 2) ((congrArg (Cert.On_in_range.fn (F := Ideal) a0 a1 a2 a3 a4 a5 a6).2.2.2.2.2.2 (eta3 i).symm).trans h)
  exact (scale_eq n).1

end Masks

/-- Equal arguments make equal inputs. -/
theorem arr_congr {a0 b0 : FVec Ideal Cert.On_in_range.S2x4096x7168 .bf16} {a1 b1 : FVec Ideal Cert.On_in_range.S2x4096 .f32} {a2 b2 : FVec Ideal Cert.On_in_range.S7168 .f32}
    {a3 a4 a5 a6 b3 b4 b5 b6 : FVec Ideal Cert.On_in_range.S2x4096x7168 .bf16}
    (h0 : a0 = b0) (h1 : a1 = b1) (h2 : a2 = b2) (h3 : a3 = b3) (h4 : a4 = b4) (h5 : a5 = b5) (h6 : a6 = b6) :
    Cert.On_in_range.arr a0 a1 a2 a3 a4 a5 a6 = Cert.On_in_range.arr b0 b1 b2 b3 b4 b5 b6 := by
  subst h0 h1 h2 h3 h4 h5 h6
  rfl

set_option maxHeartbeats 4000000 in
theorem algebraic : @Cert.algebraic_KernelIdeal_ReferenceIdeal_on_in_range Cert.KernelIdeal.Gen.facts Cert.ReferenceIdeal.Gen.facts Cert.On_in_range.Gen.facts := by
  letI := Cert.On_in_range.Gen.facts
  intro m g m' g' _ hag
  refine ⟨fun c => w0 (Cert.KernelIdeal.Val.inp m c), fun c => w1 (Cert.KernelIdeal.Val.inp m c), fun c => w2 (Cert.KernelIdeal.Val.inp m c),
    fun c => w3 (Cert.KernelIdeal.Val.inp m c), fun c => w4 (Cert.KernelIdeal.Val.inp m c), fun c => w5 (Cert.KernelIdeal.Val.inp m c),
    fun c => w6 (Cert.KernelIdeal.Val.inp m c), ?_, ?_⟩
  · refine (θ_run Cert.KernelIdeal.defs _ _).mono (fun r h c => ?_) (Cert.KernelIdeal.Val.mrun m g)
    obtain ⟨h0, h1, h2, h3, h4, h5, h6, hargs⟩ := h c
    exact ⟨fun i _ => congrFun h0 i, fun i _ => congrFun h1 i, fun i _ => congrFun h2 i,
      fun i hi => (congrFun h3 i).trans (m3 _ _ _ _ _ _ _ rfl i hi), fun i hi => (congrFun h4 i).trans (m4 _ _ _ _ _ _ _ rfl i hi),
      fun i hi => (congrFun h5 i).trans (m5 _ _ _ _ _ _ _ rfl i hi), fun i hi => (congrFun h6 i).trans (m6 _ _ _ _ _ _ _ rfl i hi), hargs⟩
  · refine (θ_run Cert.ReferenceIdeal.defs _ _).mono (fun r h c => ?_) (Cert.ReferenceIdeal.Val.run m' g')
    obtain ⟨h0, h1, h2, h3, h4, h5, h6, hargs⟩ := h c
    obtain ⟨e0, e1, e2, e3, e4, e5, e6⟩ := hag c
    have e : Cert.ReferenceIdeal.Val.inp m' c = Cert.KernelIdeal.Val.inp m c := arr_congr e0 e1 e2 e3 e4 e5 e6
    rw [e] at h0 h1 h2 h3 h4 h5 h6
    exact ⟨fun i _ => congrFun h0 i, fun i _ => congrFun h1 i, fun i _ => congrFun h2 i, fun i _ => congrFun h3 i,
      fun i _ => congrFun h4 i, fun i _ => congrFun h5 i, fun i _ => congrFun h6 i, hargs⟩

end Cert.Join

end
-- ==== Proof.lean ====
module

public import proofs.«01_k».proof.Defs
public import proofs.«01_k».proof.Proof.KernelRuns
public import proofs.«01_k».proof.Proof.KernelIdealRuns
public import proofs.«01_k».proof.Proof.Mask
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.On_in_range.Gen.facts,
    fun m g _ => Cert.Kernel.Hand.frame m g, fun m g _ => Cert.KernelIdeal.Hand.frame m g,
    fun m g _ => Cert.ReferenceIdeal.Gen.frame m g,
    IdealRules.named_const.statement Cert.KernelIdeal.κ "inv_d" .f32 _ _ rfl,
    Cert.Join.algebraic⟩

end Cert.Proof

end
